-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 512]⟩ ⟨2, ![1024, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x256 : Shape := ⟨2, ![1024, 256]⟩
abbrev S256x16 : Shape := ⟨2, ![256, 16]⟩
abbrev S1024x2 : Shape := ⟨2, ![1024, 2]⟩
abbrev S4x256x512 : Shape := ⟨3, ![4, 256, 512]⟩
abbrev S_ : Shape := ⟨0, ![]⟩

class Facts : Prop where
  bcast_S_S1024x256 : S_.BroadcastsInDim S1024x256 (![] : Fin 0 → Fin S1024x256.rank)
  bcast_S_S256x16 : S_.BroadcastsInDim S256x16 (![] : Fin 0 → Fin S256x16.rank)
  bcast_S_S1024x2 : S_.BroadcastsInDim S1024x2 (![] : Fin 0 → Fin S1024x2.rank)

variable [Facts]

def fn {F : FTy → Type} [FloatOps F] (main_arg0 : FVec F S1024x256 .f32) (main_arg1 : FVec F S256x16 .f32) (main_arg2 : IVec S1024x2 32) (main_arg3 : FVec F S4x256x512 .f32) : IVec S1024x256 1 × IVec S256x16 1 × IVec S1024x2 1 × IVec S1024x2 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_v3 : FVec F S256x16 .f32 := Host.absf main_arg1
  let main_cst_0 : FVec F S_ .f32 := constant S_ .f32 0x7F800000#32
  let main_v4 : FVec F S256x16 .f32 := broadcastInDim S256x16 ![] bcast_S_S256x16 main_cst_0
  let main_v5 : IVec S256x16 1 := cmpf .olt main_v3 main_v4
  let main_c : IVec S_ 32 := constantI S_ 32 0#32
  let main_v6 : IVec S1024x2 32 := broadcastInDim S1024x2 ![] bcast_S_S1024x2 main_c
  let main_v7 : IVec S1024x2 1 := cmpi .sge main_arg2 main_v6
  let main_c_1 : IVec S_ 32 := constantI S_ 32 16#32
  let main_v8 : IVec S1024x2 32 := broadcastInDim S1024x2 ![] bcast_S_S1024x2 main_c_1
  let main_v9 : IVec S1024x2 1 := cmpi .slt main_arg2 main_v8
  (main_v2, main_v5, main_v7, main_v9)
-- ==== Pre_routed_ReferenceIdeal.lean ====
abbrev S1024x256 : Shape := ⟨2, ![1024, 256]⟩
abbrev S256x16 : Shape := ⟨2, ![256, 16]⟩
abbrev S1024x2 : Shape := ⟨2, ![1024, 2]⟩
abbrev S16x256x512 : Shape := ⟨3, ![16, 256, 512]⟩
abbrev S_ : Shape := ⟨0, ![]⟩

class Facts : Prop where
  bcast_S_S1024x256 : S_.BroadcastsInDim S1024x256 (![] : Fin 0 → Fin S1024x256.rank)
  bcast_S_S256x16 : S_.BroadcastsInDim S256x16 (![] : Fin 0 → Fin S256x16.rank)
  bcast_S_S1024x2 : S_.BroadcastsInDim S1024x2 (![] : Fin 0 → Fin S1024x2.rank)

variable [Facts]

def fn {F : FTy → Type} [FloatOps F] (main_arg0 : FVec F S1024x256 .f32) (main_arg1 : FVec F S256x16 .f32) (main_arg2 : IVec S1024x2 32) (main_arg3 : FVec F S16x256x512 .f32) : IVec S1024x256 1 × IVec S256x16 1 × IVec S1024x2 1 × IVec S1024x2 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_v3 : FVec F S256x16 .f32 := Host.absf main_arg1
  let main_cst_0 : FVec F S_ .f32 := constant S_ .f32 0x7F800000#32
  let main_v4 : FVec F S256x16 .f32 := broadcastInDim S256x16 ![] bcast_S_S256x16 main_cst_0
  let main_v5 : IVec S256x16 1 := cmpf .olt main_v3 main_v4
  let main_c : IVec S_ 32 := constantI S_ 32 0#32
  let main_v6 : IVec S1024x2 32 := broadcastInDim S1024x2 ![] bcast_S_S1024x2 main_c
  let main_v7 : IVec S1024x2 1 := cmpi .sge main_arg2 main_v6
  let main_c_1 : IVec S_ 32 := constantI S_ 32 16#32
  let main_v8 : IVec S1024x2 32 := broadcastInDim S1024x2 ![] bcast_S_S1024x2 main_c_1
  let main_v9 : IVec S1024x2 1 := cmpi .slt main_arg2 main_v8
  (main_v2, main_v5, main_v7, main_v9)
-- ==== Kernel.lean ====
abbrev S1024x256 : Shape := ⟨2, ![1024, 256]⟩
abbrev S256x16 : Shape := ⟨2, ![256, 16]⟩
abbrev S1024x2 : Shape := ⟨2, ![1024, 2]⟩
abbrev S4x256x512 : Shape := ⟨3, ![4, 256, 512]⟩
abbrev S256x512 : Shape := ⟨2, ![256, 512]⟩
abbrev S1024x16 : Shape := ⟨2, ![1024, 16]⟩
abbrev S6x128x512 : Shape := ⟨3, ![6, 128, 512]⟩
abbrev S6 : Shape := ⟨1, ![6]⟩
abbrev S_ : Shape := ⟨0, ![]⟩
abbrev S1024 : Shape := ⟨1, ![1024]⟩
abbrev S1024x1 : Shape := ⟨2, ![1024, 1]⟩
abbrev S1024x512 : Shape := ⟨2, ![1024, 512]⟩
abbrev S128x256 : Shape := ⟨2, ![128, 256]⟩
abbrev S128x16 : Shape := ⟨2, ![128, 16]⟩
abbrev S128 : Shape := ⟨1, ![128]⟩
abbrev S128x1 : Shape := ⟨2, ![128, 1]⟩
abbrev S128x1024 : Shape := ⟨2, ![128, 1024]⟩
abbrev S128x512 : Shape := ⟨2, ![128, 512]⟩
abbrev S1x128x512 : Shape := ⟨3, ![1, 128, 512]⟩
abbrev S1 : Shape := ⟨1, ![1]⟩

abbrev nBuf : Space → Nat
  | .hbm => 5
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S256x16, .f32⟩
  | .hbm, ⟨2, _⟩ => ⟨S1024x2, .i32⟩
  | .hbm, ⟨3, _⟩ => ⟨S4x256x512, .f32⟩
  | .hbm, ⟨4, _⟩ => ⟨S256x512, .f32⟩
  | .local _ .vmem, ⟨0, _⟩ => ⟨S1024x256, .f32⟩
  | .local _ .vmem, ⟨1, _⟩ => ⟨S256x16, .f32⟩
  | .local _ .vmem, ⟨2, _⟩ => ⟨S1024x2, .i32⟩
  | .local _ .vmem, ⟨3, _⟩ => ⟨S4x256x512, .f32⟩
  | .local _ .vmem, ⟨4, _⟩ => ⟨S256x512, .f32⟩
  | .local _ .vmem, ⟨5, _⟩ => ⟨S1024x16, .f32⟩
  | .local _ .vmem, ⟨6, _⟩ => ⟨S6x128x512, .bf16⟩
  | .local _ .vmem, ⟨7, _⟩ => ⟨S6x128x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_12 : BitVec 32 := 1#32
  let v15 : BitVec 32 := Scalar.muli v9 c1_i32_12
  let v16 : BitVec 32 := Scalar.addi c0_i32_13 v15
  v16.toNat
def k0_off1 (d0 : Dev nD) (c2_i32 : BitVec 32) (c0_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c2_i32
  let c4_i32_5 : BitVec 32 := 4#32
  let v9 : BitVec 32 := Scalar.remsi v8 c4_i32_5
  let c256_i32 : BitVec 32 := 256#32
  let v56 : BitVec 32 := Scalar.muli v9 c256_i32
  let v57 : BitVec 32 := Scalar.addi v56 c0_i32_28
  let v58 : Index := Scalar.indexCast v57
  let c0_29 : Index := 0#32
  ![v58.toNat, 0]
def k0_off2 (d0 : Dev nD) (c2_i32 : BitVec 32) (c0_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c2_i32
  let c4_i32_5 : BitVec 32 := 4#32
  let v9 : BitVec 32 := Scalar.remsi v8 c4_i32_5
  let c256_i32 : BitVec 32 := 256#32
  let v56 : BitVec 32 := Scalar.muli v9 c256_i32
  let v57 : BitVec 32 := Scalar.addi v56 c0_i32_28
  let v61 : Index := Scalar.indexCast v57
  let c0_30 : Index := 0#32
  ![v61.toNat, 0]
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_51 : BitVec 32 := 1#32
  let v118 : BitVec 32 := Scalar.muli v9 c1_i32_51
  let v119 : BitVec 32 := Scalar.addi c0_i32_52 v118
  v119.toNat
def k0_off3 (d0 : Dev nD) (c0_i32_58 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_57 : BitVec 32 := 256#32
  let v128 : BitVec 32 := Scalar.muli v5 c256_i32_57
  let v129 : BitVec 32 := Scalar.addi v128 c0_i32_58
  let v130 : Index := Scalar.indexCast v129
  let c0_59 : Index := 0#32
  ![v130.toNat, 0]
def k0_off4 (d0 : Dev nD) (c0_i32_58 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_57 : BitVec 32 := 256#32
  let v128 : BitVec 32 := Scalar.muli v5 c256_i32_57
  let v129 : BitVec 32 := Scalar.addi v128 c0_i32_58
  let v133 : Index := Scalar.indexCast v129
  let c0_60 : Index := 0#32
  ![v133.toNat, 0]
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_81 : BitVec 32 := 1#32
  let v190 : BitVec 32 := Scalar.muli v5 c1_i32_81
  let v191 : BitVec 32 := Scalar.addi c0_i32_82 v190
  v191.toNat
def k0_dev6 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_110 : BitVec 32 := 1#32
  let v262 : BitVec 32 := Scalar.muli v7 c1_i32_110
  let v263 : BitVec 32 := Scalar.addi c0_i32_111 v262
  v263.toNat
def k0_dev7 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_138 : BitVec 32 := 1#32
  let v334 : BitVec 32 := Scalar.muli v9 c1_i32_138
  let v335 : BitVec 32 := Scalar.addi c0_i32_139 v334
  v335.toNat
def k0_dev8 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_166 : BitVec 32 := 1#32
  let v406 : BitVec 32 := Scalar.muli v5 c1_i32_166
  let v407 : BitVec 32 := Scalar.addi c0_i32_167 v406
  v407.toNat
def k0_dev9 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_195 : BitVec 32 := 1#32
  let v478 : BitVec 32 := Scalar.muli v7 c1_i32_195
  let v479 : BitVec 32 := Scalar.addi c0_i32_196 v478
  v479.toNat
def k0_off5 (d0 : Dev nD) (c0_i32_202 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_201 : BitVec 32 := 256#32
  let v488 : BitVec 32 := Scalar.muli v2 c256_i32_201
  let v489 : BitVec 32 := Scalar.addi v488 c0_i32_202
  let v490 : Index := Scalar.indexCast v489
  let c0_203 : Index := 0#32
  ![v490.toNat, 0]
def k0_off6 (d0 : Dev nD) (c0_i32_202 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_201 : BitVec 32 := 256#32
  let v488 : BitVec 32 := Scalar.muli v2 c256_i32_201
  let v489 : BitVec 32 := Scalar.addi v488 c0_i32_202
  let v493 : Index := Scalar.indexCast v489
  let c0_204 : Index := 0#32
  ![v493.toNat, 0]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x256 : Shape := ⟨2, ![1024, 256]⟩
abbrev S256x16 : Shape := ⟨2, ![256, 16]⟩
abbrev S1024x2 : Shape := ⟨2, ![1024, 2]⟩
abbrev S16x256x512 : Shape := ⟨3, ![16, 256, 512]⟩
abbrev S1024x16 : Shape := ⟨2, ![1024, 16]⟩
abbrev S_ : Shape := ⟨0, ![]⟩
abbrev S1024 : Shape := ⟨1, ![1024]⟩
abbrev S1024x1 : Shape := ⟨2, ![1024, 1]⟩
abbrev S1024x256x512 : Shape := ⟨3, ![1024, 256, 512]⟩
abbrev S1024x512 : Shape := ⟨2, ![1024, 512]⟩

abbrev nBuf : Space → Nat
  | .hbm => 87
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x16, .f32⟩
  | .hbm, ⟨2, _⟩ => ⟨S1024x2, .i32⟩
  | .hbm, ⟨3, _⟩ => ⟨S16x256x512, .f32⟩
  | .hbm, ⟨4, _⟩ => ⟨S1024x16, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x16, .f32⟩
  | .hbm, ⟨9, _⟩ => ⟨S1024x16, .f32⟩
  | .hbm, ⟨10, _⟩ => ⟨S1024x16, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x16, .f32⟩
  | .hbm, ⟨15, _⟩ => ⟨S1024x16, .f32⟩
  | .hbm, ⟨16, _⟩ => ⟨S1024x1, .i32⟩
  | .hbm, ⟨17, _⟩ => ⟨S1024, .i32⟩
  | .hbm, ⟨18, _⟩ => ⟨S1024x1, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S1024x1, .i32⟩
  | .hbm, ⟨36, _⟩ => ⟨S1024x1, .i32⟩
  | .hbm, ⟨37, _⟩ => ⟨S1024x2, .i32⟩
  | .hbm, ⟨38, _⟩ => ⟨S1024, .f32⟩
  | .hbm, ⟨39, _⟩ => ⟨S1024x1, .f32⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S_, .i32⟩
  | .hbm, ⟨48, _⟩ => ⟨S1024, .i32⟩
  | .hbm, ⟨49, _⟩ => ⟨S1024, .i1⟩
  | .hbm, ⟨50, _⟩ => ⟨S_, .i32⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S1024x1, .i32⟩
  | .hbm, ⟨55, _⟩ => ⟨S1024x1, .i32⟩
  | .hbm, ⟨56, _⟩ => ⟨S1024x2, .i32⟩
  | .hbm, ⟨57, _⟩ => ⟨S1024, .f32⟩
  | .hbm, ⟨58, _⟩ => ⟨S1024x1, .f32⟩
  | .hbm, ⟨59, _⟩ => ⟨S1024x1, .f32⟩
  | .hbm, ⟨60, _⟩ => ⟨S_, .i32⟩
  | .hbm, ⟨61, _⟩ => ⟨S1024, .i32⟩
  | .hbm, ⟨62, _⟩ => ⟨S1024, .i1⟩
  | .hbm, ⟨63, _⟩ => ⟨S_, .i32⟩
  | .hbm, ⟨64, _⟩ => ⟨S1024, .i32⟩
  | .hbm, ⟨65, _⟩ => ⟨S1024, .i32⟩
  | .hbm, ⟨66, _⟩ => ⟨S1024, .i32⟩
  | .hbm, ⟨67, _⟩ => ⟨S1024x1, .i32⟩
  | .hbm, ⟨68, _⟩ => ⟨S1024x256x512, .f32⟩
  | .hbm, ⟨69, _⟩ => ⟨S1024x512, .f32⟩
  | .hbm, ⟨70, _⟩ => ⟨S_, .i32⟩
  | .hbm, ⟨71, _⟩ => ⟨S1024, .i32⟩
  | .hbm, ⟨72, _⟩ => ⟨S1024, .i1⟩
  | .hbm, ⟨73, _⟩ => ⟨S_, .i32⟩
  | .hbm, ⟨74, _⟩ => ⟨S1024, .i32⟩
  | .hbm, ⟨75, _⟩ => ⟨S1024, .i32⟩
  | .hbm, ⟨76, _⟩ => ⟨S1024, .i32⟩
  | .hbm, ⟨77, _⟩ => ⟨S1024x1, .i32⟩
  | .hbm, ⟨78, _⟩ => ⟨S1024x256x512, .f32⟩
  | .hbm, ⟨79, _⟩ => ⟨S1024x512, .f32⟩
  | .hbm, ⟨80, _⟩ => ⟨S1024x1, .f32⟩
  | .hbm, ⟨81, _⟩ => ⟨S1024x512, .f32⟩
  | .hbm, ⟨82, _⟩ => ⟨S1024x512, .f32⟩
  | .hbm, ⟨83, _⟩ => ⟨S1024x1, .f32⟩
  | .hbm, ⟨84, _⟩ => ⟨S1024x512, .f32⟩
  | .hbm, ⟨85, _⟩ => ⟨S1024x512, .f32⟩
  | .hbm, ⟨86, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_8 : Ref sig .tc := ⟨.hbm, 60, rfl⟩
abbrev main_v46 : Ref sig .tc := ⟨.hbm, 61, rfl⟩
abbrev main_v47 : Ref sig .tc := ⟨.hbm, 62, rfl⟩
abbrev main_c_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_10 : Ref sig .tc := ⟨.hbm, 70, rfl⟩
abbrev main_v54 : Ref sig .tc := ⟨.hbm, 71, rfl⟩
abbrev main_v55 : Ref sig .tc := ⟨.hbm, 72, rfl⟩
abbrev main_c_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Contents.lean ====
/-
# Contents: what the expert kernel computes, in the kernel's own operations

The kernel runs on four devices. Device `c` holds four of the sixteen experts. It forms the full table of routing
weights, and then, for each block of 128 rows, the sum over its own four experts of the weighted products. Six of the
eight blocks go to other devices; the other two stay and are added to the six blocks that arrive.

This module names those values over any float model: the table of weights, a block's product before and after it is
narrowed for the copy, the row blocks of the inputs, and the result on each device.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Writes

@[expose] public section

noncomputable section

namespace Cert.Moe

open Cert.KernelIdeal Cert.KernelIdeal.Gen
open Idealize.ShloMosaic
open Idealize.ShloMosaic.TcCoe
open Idealize.SL Idealize.SL.Sem

variable {F : FTy → Type} [FloatOps F]

/-! ## Around the four devices -/

set_option backward.proofsInPublic true in
/-- The device `n` places after `c`. -/
def shift (n : ℕ) (c : Dev nD) : Dev nD := ⟨(c.val + n) % 4, Nat.mod_lt _ (by decide)⟩

/-- How many places away copy `k` goes. -/
abbrev hop : Fin 6 → ℕ := ![2, 3, 1, 2, 3, 1]
/-- How many places back the receiver of copy `k` finds its sender. -/
abbrev back : Fin 6 → ℕ := ![2, 1, 3, 2, 1, 3]
/-- The receive slot copy `k` lands in. -/
abbrev land : Fin 6 → Fin 6 := ![2, 4, 0, 3, 5, 1]
/-- The copy that lands in receive slot `s`. -/
abbrev copyOf : Fin 6 → Fin 6 := ![2, 5, 0, 3, 1, 4]
/-- Which half of the receiver's 256 rows copy `k` carries. -/
abbrev half : Fin 6 → Fin 2 := ![0, 0, 0, 1, 1, 1]

theorem copyOf_land (k : Fin 6) : copyOf (land k) = k := by revert k; decide
theorem land_copyOf (k : Fin 6) : land (copyOf k) = k := by revert k; decide
theorem shift_back_hop (k : Fin 6) (c : Dev nD) : shift (back k) (shift (hop k) c) = c := by revert k c; decide
theorem shift_hop_back (k : Fin 6) (c : Dev nD) : shift (hop k) (shift (back k) c) = c := by revert k c; decide

/-! ## One block's product -/

/-- One local expert's scaled rows: the rows `x`, each multiplied by its weight for expert `4 * v2 + j`. -/
def scaled (v2 : BitVec 32) (x : Vec F S128x256 .f32) (w : Vec F S128x16 .f32) (j : BitVec 32) : FVec F S128x256 .bf16 :=
  truncf .bf16 (mulf (shapeCast S128x256 x shapeCasts_S128x256_S128x256)
    (broadcastTo S128x256 (shapeCast S128x1 (multiReduction .add [1] S128
      (mulf w (sitofp .f32 (extui 32 (cmpi .eq (iota .tc S128x16 32 [1] iota_S128x16_d1_w32)
        (broadcast S128x16 (Scalar.addi (Scalar.muli v2 4#32) j))) natLt_1_32)))
      0x00000000#32 reduces_S128x16_S128 (.inl rfl) rfl) shapeCasts_S128_S128x1) broadcasts_S128x1_S128x256)) bitsLt_bf16_f32

/-- The block's product with the device's four experts: the four scaled copies of the rows laid side by side, times the
    four experts stacked. -/
def product (v2 : BitVec 32) (ew : FVec F S1024x512 .bf16) (x : Vec F S128x256 .f32) (w : Vec F S128x16 .f32) : FVec F S128x512 .f32 :=
  matmul dot_S128x1024_S1024x512_S128x512_1_0_0_1_n_n none
    (concatenate S128x1024 1 [⟨S128x256, scaled v2 x w 0#32⟩, ⟨S128x256, scaled v2 x w 1#32⟩, ⟨S128x256, scaled v2 x w 2#32⟩, ⟨S128x256, scaled v2 x w 3#32⟩]
      concatenates_S128x256_S128x256_S128x256_S128x256_S128x1024_d1) ew (constant S128x512 .f32 0x00000000#32)

/-- The product narrowed and laid out as one slot of the copy buffers. -/
def packed (v2 : BitVec 32) (ew : FVec F S1024x512 .bf16) (x : Vec F S128x256 .f32) (w : Vec F S128x16 .f32) : FVec F S1x128x512 .bf16 :=
  shapeCast S1x128x512 (truncf .bf16 (product v2 ew x w) bitsLt_bf16_f32) shapeCasts_S128x512_S1x128x512

/-- A received slot widened back. -/
def widened (r : Vec F S1x128x512 .bf16) : FVec F S128x512 .f32 :=
  extf .f32 (shapeCast S128x512 r shapeCasts_S1x128x512_S128x512) bitsLt_bf16_f32

/-- A device's own block plus the three it received, in the order the kernel adds them. -/
def total (p : FVec F S128x512 .f32) (a b d : Vec F S1x128x512 .bf16) : FVec F S128x512 .f32 :=
  addf (addf (addf p (widened a)) (widened b)) (widened d)

section Pieces
variable (v2 : BitVec 32) (ew : FVec F S1024x512 .bf16) (x : Vec F S128x256 .f32) (w : Vec F S128x16 .f32)

/-- The column numbers. -/
abbrev cols : IVec S128x16 32 := iota .tc S128x16 32 [1] iota_S128x16_d1_w32

/-! The kernel's text computes each of its eight blocks in pieces; each composite is the block's product. -/

theorem piece0 : k0_pay6 v2 ew (k0_pay4 x) w cols (k0_pay5 v2 w) = packed v2 ew x w := rfl
theorem piece1 : k0_pay10 v2 ew (k0_pay7 x) w cols (k0_pay8 v2 x w) (k0_pay9 v2 w) = packed v2 ew x w := rfl
theorem piece2 : k0_pay15 v2 ew (k0_pay11 x) w cols (k0_pay12 v2 x w) (k0_pay13 v2 x w) (k0_pay14 v2 w) = packed v2 ew x w := rfl
theorem piece3 : k0_pay21 ew (k0_pay16 x) (k0_pay17 v2 (k0_pay16 x) w) (k0_pay18 v2 (k0_pay16 x) w) (k0_pay19 v2 (k0_pay16 x) w) (k0_pay20 v2 w) = packed v2 ew x w := rfl
theorem piece4 : k0_pay24 v2 ew (k0_pay22 x) w cols (k0_pay23 v2 w) = packed v2 ew x w := rfl
theorem piece5 : k0_pay28 v2 ew (k0_pay25 x) w cols (k0_pay26 v2 x w) (k0_pay27 v2 x w) = packed v2 ew x w := rfl
theorem piece6 (a b d : Vec F S1x128x512 .bf16) :
    k0_pay34 (k0_pay33 v2 ew (k0_pay29 x) w cols (k0_pay30 v2 x w) (k0_pay31 v2 x w) (k0_pay32 v2 x w) a) b d = total (product v2 ew x w) a b d := rfl
theorem piece7 (a b d : Vec F S1x128x512 .bf16) :
    k0_pay39 (k0_pay38 (k0_pay37 v2 ew (k0_pay35 x) w cols (k0_pay36 v2)) a b) d = total (product v2 ew x w) a b d := rfl

end Pieces

/-! ## A device's inputs and weights -/

variable (m : (ℓ : Loc nD τ sig) → Buf (Elt F) ℓ)

/-- The tokens, the router's matrix, the routed experts and the device's four experts, as staged on device `c`. -/
def xIn (c : Dev nD) : (cc0_stg0_0 : Ref sig .tc).ty.Contents (Elt F) :=
  (win0_0.blk (0 : Fin 1)).view.read (Elt F) (m ((c : Thread nD τ).loc main_arg0))
def routerIn (c : Dev nD) : (cc0_stg1_0 : Ref sig .tc).ty.Contents (Elt F) :=
  (win0_1.blk (0 : Fin 1)).view.read (Elt F) (m ((c : Thread nD τ).loc main_arg1))
def idxIn (c : Dev nD) : (cc0_stg2_0 : Ref sig .tc).ty.Contents (Elt F) :=
  (win0_2.blk (0 : Fin 1)).view.read (Elt F) (m ((c : Thread nD τ).loc main_arg2))
def expertIn (c : Dev nD) : (cc0_stg3_0 : Ref sig .tc).ty.Contents (Elt F) :=
  (win0_3.blk (0 : Fin 1)).view.read (Elt F) (m ((c : Thread nD τ).loc main_arg3))

abbrev xM : Memref sig .tc .vmem S1024x256 .f32 := Memref.whole cc0_stg0_0
abbrev routerM : Memref sig .tc .vmem S256x16 .f32 := Memref.whole cc0_stg1_0
abbrev idxM : Memref sig .tc .vmem S1024x2 .i32 := Memref.whole cc0_stg2_0
abbrev expertM : Memref sig .tc .vmem S4x256x512 .f32 := Memref.whole cc0_stg3_0
abbrev outM : Memref sig .tc .vmem S256x512 .f32 := Memref.whole cc0_stg4_0
abbrev wM : Memref sig .tc .vmem S1024x16 .f32 := Memref.whole cc0_scratch0
abbrev sendM : Memref sig .tc .vmem S6x128x512 .bf16 := Memref.whole cc0_scratch1
abbrev recvM : Memref sig .tc .vmem S6x128x512 .bf16 := Memref.whole cc0_scratch2

/-- One column of the routed experts. -/
abbrev idxCol0 : Rect S1024x2 := Rect.unit (s := S1024x2) ![0, 0] S1024x1.size inb_S1024x2_S1024x1_0_0
abbrev idxCol1 : Rect S1024x2 := Rect.unit (s := S1024x2) ![0, 1] S1024x1.size inb_S1024x2_S1024x1_0_1

/-- The table of routing weights device `c` computes, 1024 tokens by 16 experts. -/
def weights (c : Dev nD) : (cc0_scratch0 : Ref sig .tc).ty.Contents (Elt F) :=
  k0_pay2 (k0_pay1 (xIn m c) (routerIn m c)) (idxM.view.readAt (Elt F) idxCol0.toLoadRect (idxIn m c)) (idxM.view.readAt (Elt F) idxCol1.toLoadRect (idxIn m c))

/-- The device's number as the kernel forms it. -/
abbrev me (c : Dev nD) : BitVec 32 := Scalar.remsi (Scalar.divsi (Dev.word c) 1#32) 4#32

theorem xRows_inb (t : Dev nD) (h : Fin 2) : ∀ a, (![256 * t.val + 128 * h.val, 0] : Fin 2 → ℕ) a + S128x256.size a ≤ S1024x256.size a := by
  revert t h; decide +kernel
theorem wRows_inb (t : Dev nD) (h : Fin 2) : ∀ a, (![256 * t.val + 128 * h.val, 0] : Fin 2 → ℕ) a + S128x16.size a ≤ S1024x16.size a := by
  revert t h; decide +kernel

/-- The rows of half `h` of device `t`'s part of the result, in the tokens and in the table of weights. -/
abbrev xRect (t : Dev nD) (h : Fin 2) : Rect S1024x256 := Rect.unit (s := S1024x256) ![256 * t.val + 128 * h.val, 0] S128x256.size (xRows_inb t h)
abbrev wRect (t : Dev nD) (h : Fin 2) : Rect S1024x16 := Rect.unit (s := S1024x16) ![256 * t.val + 128 * h.val, 0] S128x16.size (wRows_inb t h)

/-- Those rows of device `c`'s tokens and weights. -/
def xRows (c t : Dev nD) (h : Fin 2) : Vec F S128x256 .f32 := xM.view.readAt (Elt F) (xRect t h).toLoadRect (xIn m c)
def wRows (c t : Dev nD) (h : Fin 2) : Vec F S128x16 .f32 := wM.view.readAt (Elt F) (wRect t h).toLoadRect (weights m c)

/-- Device `c`'s share of half `h` of device `t`'s rows, and the same as a copy carries it. -/
def share (c t : Dev nD) (h : Fin 2) : FVec F S128x512 .f32 := product (me c) (k0_pay3 (expertIn m c)) (xRows m c t h) (wRows m c t h)
def sent (c t : Dev nD) (h : Fin 2) : FVec F S1x128x512 .bf16 := packed (me c) (k0_pay3 (expertIn m c)) (xRows m c t h) (wRows m c t h)

/-- Half `h` of the rows device `c` returns: its own share, then the shares from two, one and three places after it. -/
def result (c : Dev nD) (h : Fin 2) : FVec F S128x512 .f32 :=
  total (share m c c h) (sent m (shift 2 c) c h) (sent m (shift 1 c) c h) (sent m (shift 3 c) c h)

/-- The two halves of the rows a device returns. -/
abbrev outTop : Rect S256x512 := Rect.unit (s := S256x512) ![0, 0] S128x512.size inb_S256x512_S128x512_0_0
abbrev outBot : Rect S256x512 := Rect.unit (s := S256x512) ![128, 0] S128x512.size inb_S256x512_S128x512_128_0

/-- Which half a row of the result lies in, and where in it. -/
def outHalf (i : S256x512.Idx) : Fin 2 := if (i 0).val < 128 then 0 else 1
set_option backward.proofsInPublic true in
def outPos (i : S256x512.Idx) : S128x512.Idx
  | ⟨0, _⟩ => ⟨(i 0).val % 128, Nat.mod_lt _ (by decide)⟩
  | ⟨1, _⟩ => ⟨(i 1).val, (i 1).isLt⟩
  | ⟨_ + 2, h⟩ => absurd h (Nat.not_lt.2 (Nat.le_add_left _ _))

/-- The 256 rows device `c` returns. -/
def resultAt (c : Dev nD) : (cc0_stg4_0 : Ref sig .tc).ty.Contents (Elt F) := fun i => result m c (outHalf i) (outPos i)

theorem outTop_pos (i : S256x512.Idx) (h : (i 0).val < 128) : outTop.emb (outPos i) = i :=
  Rect.emb_eq_of_coords _ _ _ fun a => by
    match a with
    | ⟨0, _⟩ => show (i 0).val = 0 + 1 * ((i 0).val % 128); omega
    | ⟨1, _⟩ => show (i 1).val = 0 + 1 * (i 1).val; omega
theorem outBot_pos (i : S256x512.Idx) (h : ¬ (i 0).val < 128) : outBot.emb (outPos i) = i :=
  Rect.emb_eq_of_coords _ _ _ fun a => by
    have h0 : (i 0).val < 256 := (i 0).isLt
    match a with
    | ⟨0, _⟩ => show (i 0).val = 128 + 1 * ((i 0).val % 128); omega
    | ⟨1, _⟩ => show (i 1).val = 0 + 1 * (i 1).val; omega

/-- The two stores fill the result, whatever it held. -/
theorem stores_fill (c : Dev nD) (f : (cc0_stg4_0 : Ref sig .tc).ty.Contents (Elt F)) :
    (outM.access outBot : View sig .tc _ _ _).write (Elt F) ((outM.access outTop : View sig .tc _ _ _).write (Elt F) f (result m c 0) Finset.univ) (result m c 1) Finset.univ
      = resultAt m c := by
  have key : ∀ g : (cc0_stg4_0 : Ref sig .tc).ty.Contents (Elt F), outM.view.read (Elt F) g = g := fun g => View.read_whole _ _
  rw [← key ((outM.access outBot : View sig .tc _ _ _).write (Elt F) _ _ _)]
  funext i
  by_cases h : (i 0).val < 128
  · have e : resultAt m c i = result m c 0 (outPos i) := by unfold resultAt outHalf; rw [if_pos h]
    rw [e, View.read_slice_write_of_not_mem, ← outTop_pos i h, View.read_slice_write_emb _ _ _ (Finset.mem_univ _), outTop_pos i h]
    rw [Rect.map_emb_univ]
    exact Rect.not_mem_set_of_axis _ _ 0 128 128 rfl rfl rfl (Or.inl h)
  · have e : resultAt m c i = result m c 1 (outPos i) := by unfold resultAt outHalf; rw [if_neg h]
    rw [e, ← outBot_pos i h, View.read_slice_write_emb _ _ _ (Finset.mem_univ _), outBot_pos i h]

end Cert.Moe

end
-- ==== Proof.Protocol.lean ====
/-
# Protocol: who signals, who copies, who waits

Each device first signals the other three on the barrier and waits for their three signals. A signal to a device hands
it the two receive slots its copies will land in. Each device then makes six copies, two to each other device, every
copy on a send and a receive semaphore of its own, and waits once on each of the twelve.

This module sets the protocol up: the semaphores and slots, the schedule of payments (one round, one payment for each
semaphore but three for the barrier), what each device owes at launch, and the order in which waits may be made.
-/
module

public import proofs.«01_k».proof.Proof.Contents
public import Idealize.ShloMosaic.Lib.Pipeline.Launch
public import Idealize.ShloMosaic.Lib.Pipeline.Kit
public import Idealize.ShloMosaic.Lib.Pipeline.Value
public import Idealize.ShloMosaic.Lib.ViewIndex
public import Idealize.ShloMosaic.Lib.Tactic
public import Idealize.ShloMosaic.Lib.Ring.FamCut

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the staging library's, and the protocol's with three payments to a round -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Who signals whom -/

/-- How many places away signal `j` goes, and how many places back its receiver finds the signaller. -/
abbrev hopB : Fin 3 → ℕ := ![3, 1, 2]
abbrev backB : Fin 3 → ℕ := ![1, 3, 2]
/-- The two receive slots signal `j` hands over. -/
abbrev slotA : Fin 3 → Fin 6 := ![0, 4, 2]
abbrev slotB : Fin 3 → Fin 6 := ![1, 5, 3]

theorem shift_backB_hopB (j : Fin 3) (c : Dev nD) : shift (backB j) (shift (hopB j) c) = c := by revert j c; decide
theorem shift_hopB_backB (j : Fin 3) (c : Dev nD) : shift (hopB j) (shift (backB j) c) = c := by revert j c; decide

/-- Moving every device `n` places along is a permutation of them. -/
theorem shift_bijective (n : Fin 4) : Function.Bijective (shift n.val) := by revert n; decide

/-! ## Semaphores and slots -/

abbrev barS : Sem sig := (SemArray.scalar (sig.barrier 0 rfl) : Sems sig S_).sem
set_option backward.proofsInPublic true in
abbrev sendS (k : Fin 6) : DmaSem sig := ⟨5 + k.val, Nat.lt_of_lt_of_le (Nat.add_lt_add_left k.isLt 5) (by decide)⟩
set_option backward.proofsInPublic true in
abbrev recvS (s : Fin 6) : DmaSem sig := ⟨11 + s.val, Nat.lt_of_lt_of_le (Nat.add_lt_add_left s.isLt 11) (by decide)⟩

abbrev barCell (c : Dev nD) : GSem nD τ sig := ((c : Thread nD τ), .reg barS)
abbrev sendCell (c : Dev nD) (k : Fin 6) : GSem nD τ sig := ((c : Thread nD τ), .dma (sendS k))
abbrev recvCell (c : Dev nD) (s : Fin 6) : GSem nD τ sig := ((c : Thread nD τ), .dma (recvS s))

theorem slot_inb (k : Fin 6) : ∀ a, (![k.val, 0, 0] : Fin 3 → ℕ) a + S1x128x512.size a ≤ S6x128x512.size a := by
  revert k; decide +kernel

/-- Slot `k` of a copy buffer, as the rectangle a load or a store names and as the array a copy moves. -/
abbrev slotRect (k : Fin 6) : Rect S6x128x512 := Rect.unit (s := S6x128x512) ![k.val, 0, 0] S1x128x512.size (slot_inb k)
abbrev sslot (k : Fin 6) : Memref sig .tc .vmem S128x512 .bf16 := (sendM.slice (slotRect k) (fun _ => rfl)).squeeze S128x512 squeezes_S1x128x512_S128x512
abbrev rslot (s : Fin 6) : Memref sig .tc .vmem S128x512 .bf16 := (recvM.slice (slotRect s) (fun _ => rfl)).squeeze S128x512 squeezes_S1x128x512_S128x512

/-- The elements of slot `k`. -/
abbrev slotSet (k : Fin 6) : Finset S6x128x512.Idx := (slotRect k).set

theorem slots_disjoint (k k' : Fin 6) (h : k ≠ k') : Disjoint (slotSet k) (slotSet k') :=
  Rect.unit_disjoint 0 (by
    have hv : k.val ≠ k'.val := fun e => h (Fin.ext e)
    show k.val + 1 ≤ k'.val ∨ k'.val + 1 ≤ k.val
    omega)

theorem sslot_set (k : Fin 6) : (sslot k).view.set = slotSet k := by
  show (((View.whole cc0_scratch1).slice (slotRect k)).reshape S128x512 _).set = _
  rw [View.set_reshape, View.set_slice_whole]
theorem rslot_set (k : Fin 6) : (rslot k).view.set = slotSet k := by
  show (((View.whole cc0_scratch2).slice (slotRect k)).reshape S128x512 _).set = _
  rw [View.set_reshape, View.set_slice_whole]

/-- The units one copy moves. -/
abbrev N : ℕ := (rslot 0).view.dmaCredit
theorem N_pos : 0 < N := View.dmaCredit_pos _ (by decide)
theorem credit_r (s : Fin 6) : (rslot s).view.dmaCredit = N := rfl
theorem credit_s (k : Fin 6) : (sslot k).view.dmaCredit = N := rfl

/-- Slot `k` of device `c`'s send buffer, and slot `s` of its receive buffer, held at some contents. -/
def sPts (c : Dev nD) (k : Fin 6) (f : Buf (Elt F) ((c : Thread nD τ).loc cc0_scratch1)) : sProp 𝕄 :=
  ((c : Thread nD τ).loc cc0_scratch1) ↦[slotSet k]{fullShare} f
def rPts (c : Dev nD) (s : Fin 6) (f : Buf (Elt F) ((c : Thread nD τ).loc cc0_scratch2)) : sProp 𝕄 :=
  ((c : Thread nD τ).loc cc0_scratch2) ↦[slotSet s]{fullShare} f

omit [FloatOps F] in
theorem sPts_view (c : Dev nD) (k : Fin 6) (f : Buf (Elt F) ((c : Thread nD τ).loc cc0_scratch1)) :
    sPts c k f = ((sslot k).view.loc (c : Thread nD τ) ↦[(sslot k).view.set]{fullShare} f : sProp 𝕄) := by
  unfold sPts; rw [sslot_set]
omit [FloatOps F] in
theorem rPts_view (c : Dev nD) (k : Fin 6) (f : Buf (Elt F) ((c : Thread nD τ).loc cc0_scratch2)) :
    rPts c k f = ((rslot k).view.loc (c : Thread nD τ) ↦[(rslot k).view.set]{fullShare} f : sProp 𝕄) := by
  unfold rPts; rw [rslot_set]

/-- What slot `k` of a send or receive buffer holds. -/
abbrev sRead (k : Fin 6) (f : (cc0_scratch1 : Ref sig .tc).ty.Contents (Elt F)) : Vec F S1x128x512 .bf16 := sendM.view.readAt (Elt F) (slotRect k).toLoadRect f
abbrev rRead (s : Fin 6) (f : (cc0_scratch2 : Ref sig .tc).ty.Contents (Elt F)) : Vec F S1x128x512 .bf16 := recvM.view.readAt (Elt F) (slotRect s).toLoadRect f

omit [FloatOps F] in
/-- After a copy from slot `k` into slot `s`, the receive slot holds what the send slot held. -/
theorem copied (k s : Fin 6) (fs : (cc0_scratch1 : Ref sig .tc).ty.Contents (Elt F)) (fd : (cc0_scratch2 : Ref sig .tc).ty.Contents (Elt F)) :
    rRead s ((rslot s).view.write (Elt F) fd ((sslot k).view.read (Elt F) fs) Finset.univ) = sRead k fs := by
  have h : (rslot s).view.read (Elt F) ((rslot s).view.write (Elt F) fd ((sslot k).view.read (Elt F) fs) Finset.univ) = (sslot k).view.read (Elt F) fs :=
    View.read_write_univ _ _
  have hn : S128x512.numel = S1x128x512.numel := by decide
  have e1 : ∀ g x, (rslot s).view.read (Elt F) g x = rRead s g (Shape.reshapeEquiv hn x) := fun _ _ => rfl
  have e2 : ∀ g x, (sslot k).view.read (Elt F) g x = sRead k g (Shape.reshapeEquiv hn x) := fun _ _ => rfl
  funext y
  have := congrFun h ((Shape.reshapeEquiv hn).symm y)
  rw [e1, e2, Equiv.apply_symm_apply] at this
  exact this

/-! ## The schedule -/

/-- What signal `j` hands device `c`: two receive slots of the device it comes from. -/
def barPay (c : Dev nD) (j : Fin 3) : sProp 𝕄 :=
  iprop((∃ f, rPts (shift (backB j) c) (slotA j) f) ∗ ∃ f, rPts (shift (backB j) c) (slotB j) f)
/-- What the end of copy `k` hands its sender: the send slot back. -/
def sendPay (c : Dev nD) (k : Fin 6) : sProp 𝕄 := iprop(∃ f, sPts c k f)
/-- What a copy's arrival in slot `s` hands the receiver: the slot, holding the block its sender computed. -/
def recvPay (c : Dev nD) (s : Fin 6) : sProp 𝕄 :=
  iprop(∃ f, ⌜rRead s f = sent m (shift (back (copyOf s)) c) c (half (copyOf s))⌝ ∗ rPts c s f)

omit [FloatOps F] in
instance sPts_storable (c : Dev nD) (k f) : BI.Storable (upEmb : UEmb _ 𝕄) (sPts (F := F) c k f) := by unfold sPts; infer_instance
omit [FloatOps F] in
instance rPts_storable (c : Dev nD) (k f) : BI.Storable (upEmb : UEmb _ 𝕄) (rPts (F := F) c k f) := by unfold rPts; infer_instance
omit [FloatOps F] in
instance barPay_storable (c : Dev nD) (j) : BI.Storable (upEmb : UEmb _ 𝕄) (barPay (F := F) c j) := by unfold barPay; infer_instance
omit [FloatOps F] in
instance sendPay_storable (c : Dev nD) (k) : BI.Storable (upEmb : UEmb _ 𝕄) (sendPay (F := F) c k) := by unfold sendPay; infer_instance
instance recvPay_storable (c : Dev nD) (s) : BI.Storable (upEmb : UEmb _ 𝕄) (recvPay (F := F) m c s) := by unfold recvPay; infer_instance

/-- Which copy or slot a copy semaphore belongs to. -/
def slotOf (q : DmaSem sig) : Fin 6 := ⟨(q.val + 1) % 6, Nat.mod_lt _ (by decide)⟩

theorem slotOf_send (k : Fin 6) : slotOf (sendS k) = k := by revert k; decide
theorem slotOf_recv (s : Fin 6) : slotOf (recvS s) = s := by revert s; decide
theorem send_lt (k : Fin 6) : (sendS k).val < 11 := by show 5 + k.val < 11; omega
theorem recv_not_lt (s : Fin 6) : ¬ (recvS s).val < 11 := by show ¬ 11 + s.val < 11; omega

/-- The one round: three payments of one unit on each barrier, one of a copy's units on each copy semaphore. -/
def plan : Rounds.Schedule (GSem nD τ sig) (Fin 3) 𝕄 where
  duties g r := if r = 0 ∧ g.1.2 = .tc then (match g.2 with
      | .reg s => Finset.univ
      | .dma q => if 5 ≤ q.val then {0} else ∅) else ∅
  unitless _ := False
  amount g _ _ := match g.2 with
    | .reg _ => 1
    | .dma _ => N
  payload g _ d := match g.2 with
    | .reg _ => barPay g.1.1 d
    | .dma q => if q.val < 11 then sendPay g.1.1 (slotOf q) else recvPay m g.1.1 (slotOf q)
  amount_pos g _ _ _ := by
    rcases g with ⟨t, s | q⟩
    · exact Nat.one_pos
    · exact N_pos

instance plan_payload_storable (g : GSem nD τ sig) (r : ℕ) (d : Fin 3) :
    BI.Storable (upEmb : UEmb _ 𝕄) ((plan (F := F) m).payload g r d) := by
  rcases g with ⟨t, s | q⟩
  · exact barPay_storable t.1 d
  · show BI.Storable upEmb (if q.val < 11 then sendPay t.1 (slotOf q) else recvPay m t.1 (slotOf q))
    split <;> infer_instance

section Plan
variable (c : Dev nD)

theorem duties_bar : (plan (F := F) m).duties (barCell c) 0 = Finset.univ := by
  dsimp only [plan]; exact if_pos ⟨rfl, rfl⟩
theorem duties_send (k : Fin 6) : (plan (F := F) m).duties (sendCell c k) 0 = {0} := by
  dsimp only [plan]; rw [if_pos ⟨rfl, rfl⟩]; exact if_pos (Nat.le_add_right 5 k.val)
theorem duties_recv (s : Fin 6) : (plan (F := F) m).duties (recvCell c s) 0 = {0} := by
  dsimp only [plan]; rw [if_pos ⟨rfl, rfl⟩]; exact if_pos (Nat.le_trans (show 5 ≤ 11 by decide) (Nat.le_add_right 11 s.val))
theorem duties_later (g : GSem nD τ sig) : ∀ r, 1 ≤ r → (plan (F := F) m).duties g r = ∅ :=
  fun r hr => if_neg fun h => by omega

theorem amount_bar (d : Fin 3) : (plan (F := F) m).amount (barCell c) 0 d = 1 := rfl
theorem amount_send (k : Fin 6) (d : Fin 3) : (plan (F := F) m).amount (sendCell c k) 0 d = N := rfl
theorem amount_recv (s : Fin 6) (d : Fin 3) : (plan (F := F) m).amount (recvCell c s) 0 d = N := rfl

theorem expect_bar : (plan (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send (k : Fin 6) : (plan (F := F) m).expect (sendCell c k) 0 = N := by
  unfold Schedule.expect Schedule.amountOf; rw [duties_send, Finset.sum_singleton, amount_send]
theorem expect_recv (s : Fin 6) : (plan (F := F) m).expect (recvCell c s) 0 = N := by
  unfold Schedule.expect Schedule.amountOf; rw [duties_recv, Finset.sum_singleton, amount_recv]

theorem payload_bar (j : Fin 3) : (plan (F := F) m).payload (barCell c) 0 j = barPay c j := rfl
theorem payload_send (k : Fin 6) (d : Fin 3) : (plan (F := F) m).payload (sendCell c k) 0 d = sendPay c k := by
  show (if (sendS k).val < 11 then sendPay c (slotOf (sendS k)) else recvPay m c (slotOf (sendS k))) = _
  rw [if_pos (send_lt k), slotOf_send]
theorem payload_recv (s : Fin 6) (d : Fin 3) : (plan (F := F) m).payload (recvCell c s) 0 d = recvPay m c s := by
  show (if (recvS s).val < 11 then sendPay c (slotOf (recvS s)) else recvPay m c (slotOf (recvS s))) = _
  rw [if_neg (recv_not_lt s), slotOf_recv]

/-- What a wait for the whole round hands over, on each kind of semaphore. -/
theorem rest_bar : bigSep ((plan (F := F) m).duties (barCell c) 0 \ ∅) (fun d => (plan (F := F) m).payload (barCell c) 0 d) = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_send (k : Fin 6) : bigSep ((plan (F := F) m).duties (sendCell c k) 0 \ ∅) (fun d => (plan (F := F) m).payload (sendCell c k) 0 d) = sendPay c k := by
  rw [Finset.sdiff_empty, duties_send, bigSep_singleton, payload_send]
theorem rest_recv (s : Fin 6) : bigSep ((plan (F := F) m).duties (recvCell c s) 0 \ ∅) (fun d => (plan (F := F) m).payload (recvCell c s) 0 d) = recvPay m c s := by
  rw [Finset.sdiff_empty, duties_recv, bigSep_singleton, payload_recv]

end Plan

/-! ## What each device owes at launch -/

/-- What device `c` owes while the copies `ks` are still to be made. -/
def owedK (c : Dev nD) : List (Fin 6) → CellTallies nD τ sig Unit
  | [] => 0
  | k :: ks => owedK c ks + tallyAt (recvCell (shift (hop k) c) (land k)) () N
/-- What it owes while the signals `js` and all six copies are still to be made. -/
def owedB (c : Dev nD) : List (Fin 3) → CellTallies nD τ sig Unit
  | [] => owedK c [0, 1, 2, 3, 4, 5]
  | j :: js => owedB c js + tallyAt (barCell (shift (hopB j) c)) () 1

/-- What it owes at launch. -/
abbrev O₀ (c : Dev nD) : CellTallies nD τ sig Unit := owedB c [0, 1, 2]

theorem owedK_pos {c : Dev nD} {g : GSem nD τ sig} {u : Unit} : ∀ {ks : List (Fin 6)}, 0 < owedK c ks g u → ∃ k : Fin 6, g = recvCell (shift (hop k) c) (land k)
  | [], h => absurd h (Nat.lt_irrefl 0)
  | k :: ks, h => by
    unfold owedK at h
    rw [Pi.add_apply, Finsupp.add_apply, tallyAt_apply] at h
    by_cases hg : g = recvCell (shift (hop k) c) (land k) ∧ u = ()
    · exact ⟨k, hg.1⟩
    · rw [if_neg hg, Nat.add_zero] at h; exact owedK_pos h

theorem owedB_pos {c : Dev nD} {g : GSem nD τ sig} {u : Unit} : ∀ {js : List (Fin 3)}, 0 < owedB c js g u →
    (∃ k : Fin 6, g = recvCell (shift (hop k) c) (land k)) ∨ ∃ j : Fin 3, g = barCell (shift (hopB j) c)
  | [], h => Or.inl (owedK_pos h)
  | j :: js, h => by
    unfold owedB at h
    rw [Pi.add_apply, Finsupp.add_apply, tallyAt_apply] at h
    by_cases hg : g = barCell (shift (hopB j) c) ∧ u = ()
    · exact Or.inr ⟨j, hg.1⟩
    · rw [if_neg hg, Nat.add_zero] at h; exact owedB_pos h

/-! ## The order of waits: staging and send semaphores, then barriers, then receive semaphores -/

def L (g : GSem nD τ sig) : Finset Unit := if g.1.2 = .tc then {()} else ∅
def lv (g : GSem nD τ sig) (_ : Unit) : ℕ := match g.2 with
  | .reg _ => 1
  | .dma q => if q.val < 11 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (s : Fin 6) (u : Unit) : lv (recvCell c s) u = 2 := if_neg (recv_not_lt s)

omit [FloatOps F] in
/-- A staging or send semaphore may be waited on while the launch's debts stand, or none. -/
theorem mayWait_stage (c : Dev nD) (q : DmaSem sig) (hq : q.val < 11) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedB_pos hg with ⟨k, rfl⟩ | ⟨j, rfl⟩ <;> exact Finset.mem_singleton_self _)
      (fun p hp => by rw [Finset.mem_singleton.mp hp]; exact le_of_eq (if_pos hq))
      (fun g u hg => by
        rcases owedB_pos hg with ⟨k, rfl⟩ | ⟨j, rfl⟩
        · rw [lv_recv]; decide
        · exact Nat.one_pos)
  · rw [MayWait_zero]; iintro -; iempintro

omit [FloatOps F] in
/-- At its barrier wait a device owes copies only: receive semaphores, which come after barriers. -/
theorem mayWait_bar (c : Dev nD) (ks : List (Fin 6)) :
    (levAts L lv : sProp 𝕄) ⊢ MayWait (c : Thread nD τ) (.reg barS) () (owedK c ks) :=
  MayOwe.of_cut (L := L) (lev := lv) 1 (fun p hp => by rw [Finset.mem_singleton.mp hp, L_tc]; exact Finset.mem_singleton_self _)
    (fun g u hg => by obtain ⟨k, rfl⟩ := owedK_pos hg; exact Finset.mem_singleton_self _)
    (fun p hp => by rw [Finset.mem_singleton.mp hp]; exact le_refl 1)
    (fun g u hg => by obtain ⟨k, rfl⟩ := owedK_pos hg; rw [lv_recv]; decide)

/-! ## The thirteen semaphores of a device, and what its body starts from -/

set_option backward.proofsInPublic true in
/-- A device's semaphores: the barrier, the six send semaphores, the six receive semaphores. -/
def csem (i : Fin 13) : SemLoc sig :=
  if h : i.val = 0 then .reg barS else .dma ⟨4 + i.val, Nat.lt_of_lt_of_le (Nat.add_lt_add_left i.isLt 4) (by decide)⟩
abbrev kcell (ci : Dev nD × Fin 13) : GSem nD τ sig := ((ci.1 : Thread nD τ), csem ci.2)

set_option backward.proofsInPublic true in
abbrev iSend (k : Fin 6) : Fin 13 := ⟨1 + k.val, by omega⟩
set_option backward.proofsInPublic true in
abbrev iRecv (s : Fin 6) : Fin 13 := ⟨7 + s.val, by omega⟩

theorem kcell_bar (c : Dev nD) : kcell (c, 0) = barCell c := rfl
theorem kcell_send (c : Dev nD) (k : Fin 6) : kcell (c, iSend k) = sendCell c k := by revert k; intro k; fin_cases k <;> rfl
theorem kcell_recv (c : Dev nD) (s : Fin 6) : kcell (c, iRecv s) = recvCell c s := by revert s; intro k; fin_cases k <;> rfl

/-- Every semaphore's invariant, at the names `K`, and that every semaphore's round has begun. -/
def records (K : Dev nD × Fin 13 → ℕ) : sProp 𝕄 :=
  iprop((bigSep Finset.univ fun ci : Dev nD × Fin 13 => cellInv ER (plan m) (K ci) (kcell ci))
    ∗ bigSep Finset.univ fun ci : Dev nD × Fin 13 => reached ER (kcell ci) 0)

instance records_persistent (K : Dev nD × Fin 13 → ℕ) : BI.Persistent (records m K) := by unfold records; infer_instance

theorem records_inv (K : Dev nD × Fin 13 → ℕ) (ci : Dev nD × Fin 13) : records m K ⊢ cellInv ER (plan m) (K ci) (kcell ci) := by
  have h : (bigSep Finset.univ fun ci : Dev nD × Fin 13 => (cellInv ER (plan m) (K ci) (kcell ci) : sProp 𝕄)) ⊢ cellInv ER (plan m) (K ci) (kcell ci) :=
    bigSep_elim (Finset.mem_univ ci)
  unfold records
  iintro ⟨H, -⟩
  iapply h; iexact H
theorem records_reached (K : Dev nD × Fin 13 → ℕ) (ci : Dev nD × Fin 13) : records m K ⊢ reached ER (kcell ci) 0 := by
  have h : (bigSep Finset.univ fun ci : Dev nD × Fin 13 => (reached ER (kcell ci) 0 : sProp 𝕄)) ⊢ reached ER (kcell ci) 0 :=
    bigSep_elim (Finset.mem_univ ci)
  unfold records
  iintro ⟨-, H⟩
  iapply h; iexact H

/-- The payments device `c` makes: a unit on each other barrier, a copy's units on the receive semaphore of each copy and
    on its own send semaphore of each. -/
def payToks (c : Dev nD) : sProp 𝕄 :=
  iprop((bigSep Finset.univ fun j : Fin 3 => dutyTok ER (barCell (shift (hopB j) c)) 0 j)
    ∗ (bigSep Finset.univ fun k : Fin 6 => dutyTok ER (recvCell (shift (hop k) c) (land k)) 0 0)
    ∗ bigSep Finset.univ fun k : Fin 6 => dutyTok ER (sendCell c k) 0 0)

/-- Device `c`'s own part of the ghost state: its positions on its thirteen semaphores and the payments it makes. -/
def mine (c : Dev nD) : sProp 𝕄 :=
  iprop((bigSep Finset.univ fun i : Fin 13 => atPos ER (kcell (c, i)) 0 ∅ 0) ∗ payToks c)

/-- What device `c`'s body starts from besides its buffers. -/
def start (c : Dev nD) : sProp 𝕄 :=
  iprop((∃ K, records m K ∗ mine c) ∗ cred (tallyAt (barCell c) () 3)
    ∗ (bigSep Finset.univ fun s : Fin 6 => cred (tallyAt (recvCell c s) () N)) ∗ levAts L lv)

/-- The three scratch buffers, held at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ ∃ f : Buf (Elt F) ((c : Thread nD τ).loc cc0_scratch2), ((c : Thread nD τ).loc cc0_scratch2) ↦{fullShare} f)

def Φ₀ (c : Dev nD) : sProp 𝕄 := iprop(start m c ∗ scratch c)
/-- What it ends with: the buffers, and its thirteen semaphores at zero. -/
def Φ₁ (c : Dev nD) : sProp 𝕄 := iprop(scratch c ∗ bigSep Finset.univ fun i : Fin 13 => semVal (kcell (c, i)) 0)

end Cert.Moe

end
-- ==== Proof.Steps.lean ====
/-
# Steps: one rule for each kind of operation the body performs

A signal, the barrier wait, a copy, the wait for a copy's arrival or for its end, and the loads and stores, each as one
rule that says what a device must hold before the operation and what it holds after.
-/
module

public import proofs.«01_k».proof.Proof.Protocol

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs `p` to an end where `Q` holds. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited on so far. -/
def debts (c : Dev nD) (O : CellTallies nD τ sig Unit) : sProp 𝕄 := iprop(∃ W, owes (c : Thread nD τ) O W)

/-- A whole buffer of device `c`, held at contents `f`. -/
abbrev held (c : Dev nD) (b : Ref sig .tc) (f : Buf (Elt F) ((c : Thread nD τ).loc b)) : sProp 𝕄 := ((c : Thread nD τ).loc b) ↦{fullShare} f

/-- The receive slot copy `k` of device `c` will land in, as the barrier hands it over. -/
def landing (c : Dev nD) (k : Fin 6) : sProp 𝕄 := iprop(∃ f, rPts (F := F) (shift (hop k) c) (land k) f)

variable (K : Dev nD × Fin 13 → ℕ) (c : Dev nD) {α : Type}

section Invariants

theorem inv_bar (d : Dev nD) : records m K ⊢ cellInv ER (plan m) (K (d, 0)) (barCell d) := records_inv m K (d, 0)
theorem inv_send (k : Fin 6) : records m K ⊢ cellInv ER (plan m) (K (c, iSend k)) (sendCell c k) := by
  rw [← kcell_send]; exact records_inv m K (c, iSend k)
theorem inv_recv (d : Dev nD) (s : Fin 6) : records m K ⊢ cellInv ER (plan m) (K (d, iRecv s)) (recvCell d s) := by
  rw [← kcell_recv]; exact records_inv m K (d, iRecv s)
theorem begun_bar (d : Dev nD) : records m K ⊢ reached ER (barCell d) 0 := records_reached m K (d, 0)
theorem begun_send (k : Fin 6) : records m K ⊢ reached ER (sendCell c k) 0 := by
  rw [← kcell_send]; exact records_reached m K (c, iSend k)
theorem begun_recv (d : Dev nD) (s : Fin 6) : records m K ⊢ reached ER (recvCell d s) 0 := by
  rw [← kcell_recv]; exact records_reached m K (d, iRecv s)

end Invariants

/-- Signal `j`: a unit of debt is paid, and the two slots go along. -/
theorem step_signal (j : Fin 3) (js : List (Fin 3)) (sA sB : Fin 6) (hA : slotA j = sA) (hB : slotB j = sB) (n : Dev nD) (hn : n = shift (hopB j) c)
    (a : ℤ) (ha : a = 1)
    {k : PUnit → Prog (TpuEff nD τ sig (Elt F) Λ₀ .tc) α} {Q : α → sProp 𝕄} :
    records m K
      ⊢ iprop(debts c (owedB c (j :: js)) -∗ dutyTok ER (barCell (shift (hopB j) c)) 0 j
        -∗ (∃ f, rPts c sA f) -∗ (∃ f, rPts c sB f) -∗ (debts c (owedB c js) -∗ run c (k ⟨⟩) Q) -∗ run c (.op (.semSignal (Dev.tc n : Thread nD τ) barS a) k) Q) := by
  subst hn ha hA hB
  unfold debts
  iintro #HR ⟨%W, HO⟩ Ht HA HB Hk
  iapply (Rounds.wp_signal 𝒱₀ ER (plan m) (c : Thread nD τ) none (dst := (shift (hopB j) c : Thread nD τ)) (κ := K (shift (hopB j) c, 0))
      (d := j) (by rw [duties_bar]; exact Finset.mem_univ _) (amount_bar m (shift (hopB j) c) j) () (owedB c js) rfl)
    $$ [HO Ht HA HB]
  · isplitr; · iapply (inv_bar m K); iexact HR
    isplitl [HO]; · iexact HO
    isplitl [Ht]; · iexact Ht
    isplitl [HA HB]
    · rw [payload_bar]; unfold barPay; rw [shift_backB_hopB]
      isplitl [HA]; · iexact HA
      iexact HB
    iapply (begun_bar m K); iexact HR
  iintro HO
  iapply Hk; iexists W; iexact HO

/-- The barrier wait: the landing slots of all six copies arrive, and the barrier's counter is at zero for good. -/
theorem step_barrier (a : ℤ) (ha : a = 3) {k : PUnit → Prog (TpuEff nD τ sig (Elt F) Λ₀ .tc) α} {Q : α → sProp 𝕄} :
    records m K
      ⊢ iprop(levAts L lv -∗ cred (tallyAt (barCell c) () 3) -∗ debts c (owedB c []) -∗ atPos ER (kcell (c, 0)) 0 ∅ 0
        -∗ ((debts c (owedK c [0, 1, 2, 3, 4, 5]) ∗ semVal (kcell (c, 0)) 0
            ∗ landing c 2 ∗ landing c 5 ∗ landing c 1 ∗ landing c 4 ∗ landing c 0 ∗ landing c 3) -∗ run c (k ⟨⟩) Q)
          -∗ run c (.op (.semWait barS a) k) Q) := by
  subst ha
  unfold debts
  iintro #HR #Hlev Hc ⟨%W, HO⟩ Hat Hk
  ihave #HI := (inv_bar m K c) $$ HR
  iapply (Rounds.wp_wait_rest_token 𝒱₀ ER (plan m) (c : Thread nD τ) none (κ := K (c, 0))
      (wpE_semWait_eq 𝒱₀ (c : Thread nD τ) none Set.univ) (Set.mem_univ _) () (O := owedK c [0, 1, 2, 3, 4, 5]) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  unfold barPay
  icases Hp with ⟨⟨H2, H5⟩, ⟨H1, H4⟩, H0, H3⟩
  imod (Rounds.cell_close ER (plan m) (Set.mem_univ (K (c, 0))) (fun h => h) (R := 0 + 1) (duties_later m (barCell c))) $$ [Hat] with Hz
  · isplitr; · iexact HI
    iexact Hat
  iapply Hk
  unfold landing
  isplitl [HO]; · iexists _; iexact HO
  isplitl [Hz]; · iexact Hz
  isplitl [H2]; · iexact H2
  isplitl [H5]; · iexact H5
  isplitl [H1]; · iexact H1
  isplitl [H4]; · iexact H4
  isplitl [H0]; · iexact H0
  iexact H3

/-- Copy `k`: its debt is paid, the send slot is lent until the copy ends, and the landing slot goes to the receiver
    holding the block the send slot held. -/
theorem step_copy (k : Fin 6) (ks : List (Fin 6)) (n : Dev nD) (hn : n = shift (hop k) c)
    {hsc : (rslot (land k) : Memref sig (Dev.tc n : Thread nD τ).2.kind .vmem S128x512 .bf16).view.ref.isScScratch = false}
    {hsrc : (sslot k).view.WordExact} {hdst : (rslot (land k)).view.WordExact}
    {hsem : DmaTarget.Typed .vmem (.dma (recvS (land k))) (.remote (Dev.tc n : Thread nD τ) (rslot (land k)) (.dma (sendS k)) hsc)}
    (fs : Buf (Elt F) ((c : Thread nD τ).loc cc0_scratch1))
    (hfs : sRead k fs = sent m c (shift (hop k) c) (half k)) {kk : PUnit → Prog (TpuEff nD τ sig (Elt F) Λ₀ .tc) α} {Q : α → sProp 𝕄} :
    records m K
      ⊢ iprop(sPts c k fs -∗ landing c k -∗ debts c (owedK c (k :: ks))
        -∗ dutyTok ER (sendCell c k) 0 0 -∗ dutyTok ER (recvCell (shift (hop k) c) (land k)) 0 0
        -∗ ((cred (tallyAt (sendCell c k) () N) ∗ debts c (owedK c ks)) -∗ run c (kk ⟨⟩) Q)
          -∗ run c (.op (.enqueueDma (sslot k) (.remote (Dev.tc n : Thread nD τ) (rslot (land k)) (.dma (sendS k)) hsc) (.dma (recvS (land k))) hsrc hdst hsem) kk) Q) := by
  subst hn
  unfold debts landing
  iintro #HR Hs ⟨%fd, Hd⟩ ⟨%W, HO⟩ Ht1 Ht2 Hk
  iapply (Rounds.wp_send_pointsTo 𝒱₀ ER (plan m) (c : Thread nD τ) none (κ₁ := K (c, iSend k)) (κ₂ := K (shift (hop k) c, iRecv (land k)))
    (c' := (shift (hop k) c : Thread nD τ)) (sS := .dma (sendS k)) (sem := .dma (recvS (land k))) (hsc := hsc) (hsrc := hsrc) (hdst := hdst) (hsem := hsem) (src := sslot k) (dst := rslot (land k)) (q := fullShare) (fs := fs)
    (r₁ := 0) (r₂ := 0) (d₁ := 0) (d₂ := 0) (fd := fd)
    (by rw [duties_send]; exact Finset.mem_singleton_self _) (by rw [duties_recv]; exact Finset.mem_singleton_self _)
    () () N (credit_r (land k)) (amount_send m c k 0) (amount_recv m (shift (hop k) c) (land k) 0) (owedK c ks) rfl (W := W)
    (by rw [payload_send, ← sPts_view]; unfold sendPay; iintro H; iexists fs; iexact H)
    (by
      rw [payload_recv, ← rPts_view]; unfold recvPay; rw [copyOf_land, shift_back_hop]
      iintro H; iexists _; isplitr; · (ipureintro; exact (copied k (land k) fs fd).trans hfs)
      iexact H)) $$ [Hs Hd HO Ht1 Ht2]
  · isplitr; · iapply (inv_send m K); iexact HR
    isplitr; · iapply (inv_recv m K); iexact HR
    isplitl [Hs]; · rw [← sPts_view]; iexact Hs
    isplitl [Hd]; · rw [← rPts_view]; iexact Hd
    isplitl [HO]; · iexact HO
    isplitl [Ht1]; · iexact Ht1
    isplitr; · iapply (begun_send m K); iexact HR
    isplitl [Ht2]; · iexact Ht2
    iapply (begun_recv m K); iexact HR
  iintro ⟨Hc, HO⟩
  iapply Hk
  isplitl [Hc]; · iexact Hc
  iexists W; iexact HO

/-- The wait for the copy that lands in slot `s`: the slot comes back holding the sender's block, and the semaphore is at
    zero for good. -/
theorem step_arrival (s : Fin 6) {src : Memref sig .tc .vmem S128x512 .bf16} {hsrc : src.view.WordExact} {hdst : (rslot s).view.WordExact}
    {k : PUnit → Prog (TpuEff nD τ sig (Elt F) Λ₀ .tc) α} {Q : α → sProp 𝕄} :
    records m K
      ⊢ iprop(cred (tallyAt (recvCell c s) () N) -∗ debts c 0 -∗ atPos ER (recvCell c s) 0 ∅ 0
        -∗ ((debts c 0 ∗ semVal (recvCell c s) 0 ∗ recvPay m c s) -∗ run c (k ⟨⟩) Q)
          -∗ run c (.op (.waitDma2 (recvS s) src (rslot s) hsrc hdst) k) Q) := by
  unfold debts
  iintro #HR Hc ⟨%W, HO⟩ Hat Hk
  ihave #HI := (inv_recv m K c s) $$ HR
  iapply (Rounds.wp_wait_rest_token 𝒱₀ ER (plan m) (c : Thread nD τ) none (κ := K (c, iRecv s))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c s)) $$ Hpay
  imod (Rounds.cell_close ER (plan m) (Set.mem_univ (K (c, iRecv s))) (fun h => h) (R := 0 + 1) (duties_later m (recvCell c s))) $$ [Hat] with Hz
  · isplitr; · iexact HI
    iexact Hat
  iapply Hk
  isplitl [HO]; · iexists _; iexact HO
  isplitl [Hz]; · iexact Hz
  iexact Hp

/-- The wait for the end of copy `k`: the send slot comes back, and the semaphore is at zero for good. -/
theorem step_sent (k : Fin 6) {src : Memref sig .tc .vmem S128x512 .bf16} {hsrc : src.view.WordExact} {hdst : (sslot k).view.WordExact}
    {kk : PUnit → Prog (TpuEff nD τ sig (Elt F) Λ₀ .tc) α} {Q : α → sProp 𝕄} :
    records m K
      ⊢ iprop(cred (tallyAt (sendCell c k) () N) -∗ debts c 0 -∗ atPos ER (sendCell c k) 0 ∅ 0
        -∗ ((debts c 0 ∗ semVal (sendCell c k) 0 ∗ sendPay c k) -∗ run c (kk ⟨⟩) Q)
          -∗ run c (.op (.waitDma2 (sendS k) src (sslot k) hsrc hdst) kk) Q) := by
  unfold debts
  iintro #HR Hc ⟨%W, HO⟩ Hat Hk
  ihave #HI := (inv_send m K c k) $$ HR
  iapply (Rounds.wp_wait_rest_token 𝒱₀ ER (plan m) (c : Thread nD τ) none (κ := K (c, iSend k))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c k)) $$ Hpay
  imod (Rounds.cell_close ER (plan m) (Set.mem_univ (K (c, iSend k))) (fun h => h) (R := 0 + 1) (duties_later m (sendCell c k))) $$ [Hat] with Hz
  · isplitr; · iexact HI
    iexact Hat
  iapply Hk
  isplitl [HO]; · iexists _; iexact HO
  isplitl [Hz]; · iexact Hz
  iexact Hp

/-- A load of half `h` of device `t`'s rows from the tokens, whichever way the offset is written. -/
theorem step_x (t : Dev nD) (h : Fin 2) {off : Fin 2 → ℕ} (hoff : off = ![256 * t.val + 128 * h.val, 0])
    {inb : ∀ a, off a + S128x256.size a ≤ S1024x256.size a} {hl : xM.view.LoadsAt (Rect.unit (s := S1024x256) off S128x256.size inb).toLoadRect}
    {k : Vec F S128x256 .f32 → Prog (TpuEff nD τ sig (Elt F) Λ₀ .tc) α} {Q : α → sProp 𝕄} :
    held c cc0_stg0_0 (xIn m c)
      ⊢ iprop((held c cc0_stg0_0 (xIn m c) -∗ run c (k (xRows m c t h)) Q)
          -∗ run c (.op (.load xM (Rect.unit (s := S1024x256) off S128x256.size inb).toLoadRect hl) k) Q) := by
  subst hoff
  exact wp_load 𝒱₀ (c : Thread nD τ) none Set.univ (m := xM) (Finset.subset_univ _)

/-- The same from the table of weights. -/
theorem step_w (t : Dev nD) (h : Fin 2) {off : Fin 2 → ℕ} (hoff : off = ![256 * t.val + 128 * h.val, 0])
    {inb : ∀ a, off a + S128x16.size a ≤ S1024x16.size a} {hl : wM.view.LoadsAt (Rect.unit (s := S1024x16) off S128x16.size inb).toLoadRect}
    {k : Vec F S128x16 .f32 → Prog (TpuEff nD τ sig (Elt F) Λ₀ .tc) α} {Q : α → sProp 𝕄} :
    held c cc0_scratch0 (weights m c)
      ⊢ iprop((held c cc0_scratch0 (weights m c) -∗ run c (k (wRows m c t h)) Q)
          -∗ run c (.op (.load wM (Rect.unit (s := S1024x16) off S128x16.size inb).toLoadRect hl) k) Q) := by
  subst hoff
  exact wp_load 𝒱₀ (c : Thread nD τ) none Set.univ (m := wM) (Finset.subset_univ _)

/-- A load of send slot `k`. -/
theorem step_load_send (k : Fin 6) (f : Buf (Elt F) ((c : Thread nD τ).loc cc0_scratch1)) {hl : sendM.view.LoadsAt (slotRect k).toLoadRect}
    {kk : Vec F S1x128x512 .bf16 → Prog (TpuEff nD τ sig (Elt F) Λ₀ .tc) α} {Q : α → sProp 𝕄} :
    sPts c k f ⊢ iprop((sPts c k f -∗ run c (kk (sRead k f)) Q) -∗ run c (.op (.load sendM (slotRect k).toLoadRect hl) kk) Q) := by
  unfold sPts
  exact wp_load_rect 𝒱₀ (c : Thread nD τ) none Set.univ (m := sendM) (r := slotRect k) (by
    show ((View.whole cc0_scratch1).slice (slotRect k)).set ⊆ _; rw [View.set_slice_whole])

/-- A load of receive slot `s`. -/
theorem step_load_recv (s : Fin 6) (f : Buf (Elt F) ((c : Thread nD τ).loc cc0_scratch2)) {hl : recvM.view.LoadsAt (slotRect s).toLoadRect}
    {kk : Vec F S1x128x512 .bf16 → Prog (TpuEff nD τ sig (Elt F) Λ₀ .tc) α} {Q : α → sProp 𝕄} :
    rPts c s f ⊢ iprop((rPts c s f -∗ run c (kk (rRead s f)) Q) -∗ run c (.op (.load recvM (slotRect s).toLoadRect hl) kk) Q) := by
  unfold rPts
  exact wp_load_rect 𝒱₀ (c : Thread nD τ) none Set.univ (m := recvM) (r := slotRect s) (by
    show ((View.whole cc0_scratch2).slice (slotRect s)).set ⊆ _; rw [View.set_slice_whole])

/-- A store of a block into send slot `k`: the slot then holds it. -/
theorem step_store_send (k : Fin 6) (f : Buf (Elt F) ((c : Thread nD τ).loc cc0_scratch1)) (v : Vec F S1x128x512 .bf16)
    {hx : (sendM.access (slotRect k)).Stores Finset.univ} {hm : (Finset.univ : Finset (slotRect k).shape.Idx) = Finset.univ ∨ ∀ a, (slotRect k).stride a = 1}
    {kk : PUnit → Prog (TpuEff nD τ sig (Elt F) Λ₀ .tc) α} {Q : α → sProp 𝕄} :
    sPts c k f ⊢ iprop(((∃ f, ⌜sRead k f = v⌝ ∗ sPts c k f) -∗ run c (kk ⟨⟩) Q)
      -∗ run c (.op (.store sendM (slotRect k) v Finset.univ hx hm) kk) Q) := by
  have hset : ((View.whole cc0_scratch1).slice (slotRect k)).set = slotSet k := View.set_slice_whole _ _
  unfold sPts
  iintro H Hk
  iapply (wp_store 𝒱₀ (c : Thread nD τ) none Set.univ (m := sendM) (r := slotRect k) (Mk := Finset.univ) (S := slotSet k) (by
    rw [View.setOn_univ]; exact le_of_eq hset)) $$ H
  iintro H
  iapply Hk
  iexists _
  isplitr; swap; · iexact H
  ipureintro
  exact View.read_write_univ (v := sendM.view.slice (slotRect k)) _ _

end Cert.Moe

end
-- ==== Proof.Body.lean ====
/-
# Body: one device's run from its launch resources to its result

The body is stepped through in program order, one rule for each operation. It starts from the launch's share of the
protocol, the four staged inputs and the scratch buffers, and ends with the inputs as they were, the result computed,
and every semaphore back at zero.
-/
module

public import proofs.«01_k».proof.Proof.Steps
public import proofs.«01_k».proof.Proof.Gen.KernelIdeal.Points

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The staging library's data -/

/-- The one grid point. -/
theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the arrays hold at launch, what each staging buffer holds after the body, what the body starts from and ends
    with, and what is owed before and after it. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => routerIn m c
    | ⟨2, _⟩ => idxIn m c
    | ⟨3, _⟩ => expertIn m c
    | ⟨4, _⟩ => resultAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
/-- A family over a device's thirteen semaphores, the barrier's member first, then the send semaphores', then the receive semaphores'. -/
theorem bigSep_cells (c : Dev nD) (Φ : GSem nD τ sig → sProp 𝕄) : (bigSep Finset.univ fun i : Fin 13 => Φ (kcell (c, i)))
    = iprop(Φ (kcell (c, 0)) ∗ Φ (sendCell c 0) ∗ Φ (sendCell c 1) ∗ Φ (sendCell c 2) ∗ Φ (sendCell c 3) ∗ Φ (sendCell c 4) ∗ Φ (sendCell c 5)
      ∗ Φ (recvCell c 0) ∗ Φ (recvCell c 1) ∗ Φ (recvCell c 2) ∗ Φ (recvCell c 3) ∗ Φ (recvCell c 4) ∗ Φ (recvCell c 5)) :=
  bigSep_univ_eq_bigSepL [0, 1, 2, 3, 4, 5, 6, 7, 8, 9, 10, 11, 12] (by decide) (by decide) fun i : Fin 13 => Φ (kcell (c, i))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Whole loads and stores -/

theorem zero2 : (![0, 0] : Fin 2 → Nat) = fun _ => 0 := funext fun a => by fin_cases a <;> rfl
theorem zero3 : (![0, 0, 0] : Fin 3 → Nat) = fun _ => 0 := funext fun a => by fin_cases a <;> rfl

section Whole
omit [FloatOps F]
theorem read_x {inb} (f : (cc0_stg0_0 : Ref sig .tc).ty.Contents (Elt F)) :
    xM.view.readAt (Elt F) (Rect.unit (s := S1024x256) ![0, 0] S1024x256.size inb).toLoadRect f = f := Memref.readAt_unit_zero (Elt F) cc0_stg0_0 zero2 _ f
theorem read_router {inb} (f : (cc0_stg1_0 : Ref sig .tc).ty.Contents (Elt F)) :
    routerM.view.readAt (Elt F) (Rect.unit (s := S256x16) ![0, 0] S256x16.size inb).toLoadRect f = f := Memref.readAt_unit_zero (Elt F) cc0_stg1_0 zero2 _ f
theorem read_expert {inb} (f : (cc0_stg3_0 : Ref sig .tc).ty.Contents (Elt F)) :
    expertM.view.readAt (Elt F) (Rect.unit (s := S4x256x512) ![0, 0, 0] S4x256x512.size inb).toLoadRect f = f := Memref.readAt_unit_zero (Elt F) cc0_stg3_0 zero3 _ f
theorem write_weights {inb} (f w : (cc0_scratch0 : Ref sig .tc).ty.Contents (Elt F)) :
    (wM.access (Rect.unit (s := S1024x16) ![0, 0] S1024x16.size inb) : View sig .tc _ _ _).write (Elt F) f w Finset.univ = w :=
  Memref.write_access_unit_zero_univ (Elt F) cc0_scratch0 zero2 _ f w
end Whole

section Steps
variable (c : Dev nD) {α : Type}

/-- A load from the table of weights, and one from the result. -/
theorem step_load_weights (f : Buf (Elt F) ((c : Thread nD τ).loc cc0_scratch0)) {r : LoadRect S1024x16} {hl : wM.view.LoadsAt r}
    {k : (r.shape.Idx → Elt F .f32) → Prog (TpuEff nD τ sig (Elt F) Λ₀ .tc) α} {Q : α → sProp 𝕄} :
    held c cc0_scratch0 f ⊢ iprop((held c cc0_scratch0 f -∗ run c (k (wM.view.readAt (Elt F) r f)) Q) -∗ run c (.op (.load wM r hl) k) Q) :=
  wp_load 𝒱₀ (c : Thread nD τ) none Set.univ (m := wM) (Finset.subset_univ _)
theorem step_load_out (f : Buf (Elt F) ((c : Thread nD τ).loc cc0_stg4_0)) {r : LoadRect S256x512} {hl : outM.view.LoadsAt r}
    {k : (r.shape.Idx → Elt F .f32) → Prog (TpuEff nD τ sig (Elt F) Λ₀ .tc) α} {Q : α → sProp 𝕄} :
    held c cc0_stg4_0 f ⊢ iprop((held c cc0_stg4_0 f -∗ run c (k (outM.view.readAt (Elt F) r f)) Q) -∗ run c (.op (.load outM r hl) k) Q) :=
  wp_load 𝒱₀ (c : Thread nD τ) none Set.univ (m := outM) (Finset.subset_univ _)

/-- A store of a table of weights over the whole buffer. -/
theorem step_store_weights (f : Buf (Elt F) ((c : Thread nD τ).loc cc0_scratch0)) (w : Vec F S1024x16 .f32) {inb}
    {hx : (wM.access (Rect.unit (s := S1024x16) ![0, 0] S1024x16.size inb)).Stores Finset.univ}
    {hm : (Finset.univ : Finset (Rect.unit (s := S1024x16) ![0, 0] S1024x16.size inb).shape.Idx) = Finset.univ ∨ ∀ a, (Rect.unit (s := S1024x16) ![0, 0] S1024x16.size inb).stride a = 1}
    {k : PUnit → Prog (TpuEff nD τ sig (Elt F) Λ₀ .tc) α} {Q : α → sProp 𝕄} :
    held c cc0_scratch0 f ⊢ iprop((held c cc0_scratch0 w -∗ run c (k ⟨⟩) Q)
      -∗ run c (.op (.store wM (Rect.unit (s := S1024x16) ![0, 0] S1024x16.size inb) w Finset.univ hx hm) k) Q) := by
  iintro H Hk
  iapply (wp_store 𝒱₀ (c : Thread nD τ) none Set.univ (m := wM) (r := Rect.unit (s := S1024x16) ![0, 0] S1024x16.size inb) (Mk := Finset.univ) (S := Finset.univ)
    (Finset.subset_univ _)) $$ H
  iintro H
  rw [write_weights]
  iapply Hk; iexact H

/-- A store into part of the result. -/
theorem step_store_out (f : Buf (Elt F) ((c : Thread nD τ).loc cc0_stg4_0)) (r : Rect S256x512) (w : r.shape.Idx → Elt F .f32)
    {hx : (outM.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    held c cc0_stg4_0 f ⊢ iprop((held c cc0_stg4_0 ((outM.access r : View sig .tc _ _ _).write (Elt F) f w Finset.univ) -∗ run c (k ⟨⟩) Q)
      -∗ run c (.op (.store outM r w Finset.univ hx hm) k) Q) := by
  iintro H Hk
  iapply (wp_store 𝒱₀ (c : Thread nD τ) none Set.univ (m := outM) (r := r) (Mk := Finset.univ) (S := Finset.univ) (Finset.subset_univ _)) $$ H
  iintro H
  iapply Hk; iexact H
end Steps

/-! ## The scratch buffers cut into slots and joined again -/

section Slots
omit [FloatOps F]

/-- The elements of a copy buffer outside its slots, held at some contents. -/
def sRest (c : Dev nD) : sProp 𝕄 := iprop(∃ f : Buf (Elt F) ((c : Thread nD τ).loc cc0_scratch1), ((c : Thread nD τ).loc cc0_scratch1) ↦[Ring.restOf slotSet]{fullShare} f)
def rRest (c : Dev nD) : sProp 𝕄 := iprop(∃ f : Buf (Elt F) ((c : Thread nD τ).loc cc0_scratch2), ((c : Thread nD τ).loc cc0_scratch2) ↦[Ring.restOf slotSet]{fullShare} f)

theorem cut_send (c : Dev nD) : (iprop(∃ f : Buf (Elt F) ((c : Thread nD τ).loc cc0_scratch1), ((c : Thread nD τ).loc cc0_scratch1) ↦{fullShare} f) : sProp 𝕄)
    ⊢ iprop((bigSep Finset.univ fun k : Fin 6 => iprop(∃ f, sPts c k f)) ∗ sRest c) :=
  by unfold sPts sRest; exact Ring.fam_split_ex (ℓ := (c : Thread nD τ).loc cc0_scratch1) slotSet slots_disjoint
theorem cut_recv (c : Dev nD) : (iprop(∃ f : Buf (Elt F) ((c : Thread nD τ).loc cc0_scratch2), ((c : Thread nD τ).loc cc0_scratch2) ↦{fullShare} f) : sProp 𝕄)
    ⊢ iprop((bigSep Finset.univ fun k : Fin 6 => iprop(∃ f, rPts c k f)) ∗ rRest c) :=
  by unfold rPts rRest; exact Ring.fam_split_ex (ℓ := (c : Thread nD τ).loc cc0_scratch2) slotSet slots_disjoint
theorem join_send (c : Dev nD) (f₀ : Buf (Elt F) ((c : Thread nD τ).loc cc0_scratch1)) :
    iprop((bigSep Finset.univ fun k : Fin 6 => iprop(∃ f, sPts c k f)) ∗ sRest c)
      ⊢ (iprop(∃ f : Buf (Elt F) ((c : Thread nD τ).loc cc0_scratch1), ((c : Thread nD τ).loc cc0_scratch1) ↦{fullShare} f) : sProp 𝕄) :=
  by unfold sPts sRest; exact Ring.fam_join (ℓ := (c : Thread nD τ).loc cc0_scratch1) slotSet slots_disjoint f₀
theorem join_recv (c : Dev nD) (f₀ : Buf (Elt F) ((c : Thread nD τ).loc cc0_scratch2)) :
    iprop((bigSep Finset.univ fun k : Fin 6 => iprop(∃ f, rPts c k f)) ∗ rRest c)
      ⊢ (iprop(∃ f : Buf (Elt F) ((c : Thread nD τ).loc cc0_scratch2), ((c : Thread nD τ).loc cc0_scratch2) ↦{fullShare} f) : sProp 𝕄) :=
  by unfold rPts rRest; exact Ring.fam_join (ℓ := (c : Thread nD τ).loc cc0_scratch2) slotSet slots_disjoint f₀
end Slots

/-! ## The body -/

section Body

variable (K : Dev nD × Fin 13 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The staging buffers as the body finds them. -/
def staged (c : Dev nD) : sProp 𝕄 :=
  iprop((∃ d, stg c cc0_stg0_0 ((dats m 0 c).before (0 : Fin 5) t₀ d))
    ∗ (∃ d, stg c cc0_stg1_0 ((dats m 0 c).before (1 : Fin 5) t₀ d))
    ∗ (∃ d, stg c cc0_stg2_0 ((dats m 0 c).before (2 : Fin 5) t₀ d))
    ∗ (∃ d, stg c cc0_stg3_0 ((dats m 0 c).before (3 : Fin 5) t₀ d))
    ∗ (∃ d, stg c cc0_stg4_0 ((dats m 0 c).before (4 : Fin 5) t₀ d)))

def bodyPre (c : Dev nD) : sProp 𝕄 :=
  iprop(((records m K ∗ mine c) ∗ cred (tallyAt (barCell c) () 3)
      ∗ (bigSep Finset.univ fun s : Fin 6 => cred (tallyAt (recvCell c s) () N)) ∗ levAts L lv)
    ∗ scratch c ∗ (dats m 0 c).owesAt () t₀.castSucc ∗ staged m c)

def bodyPost (c : Dev nD) : sProp 𝕄 :=
  iprop(Φ₁ c ∗ (dats m 0 c).owesAt () t₀.succ ∗ stg c cc0_stg0_0 (xIn m c) ∗ stg c cc0_stg1_0 (routerIn m c)
    ∗ stg c cc0_stg2_0 (idxIn m c) ∗ stg c cc0_stg3_0 (expertIn m c) ∗ stg c cc0_stg4_0 (resultAt m c))

theorem before_x (c : Dev nD) (d) : (dats m 0 c).before (0 : Fin 5) t₀ d = xIn m c := by unfold Dat.before; rw [if_pos (fetch0_0 t₀)]; rfl
theorem before_router (c : Dev nD) (d) : (dats m 0 c).before (1 : Fin 5) t₀ d = routerIn m c := by unfold Dat.before; rw [if_pos (fetch0_1 t₀)]; rfl
theorem before_idx (c : Dev nD) (d) : (dats m 0 c).before (2 : Fin 5) t₀ d = idxIn m c := by unfold Dat.before; rw [if_pos (fetch0_2 t₀)]; rfl
theorem before_expert (c : Dev nD) (d) : (dats m 0 c).before (3 : Fin 5) t₀ d = expertIn m c := by unfold Dat.before; rw [if_pos (fetch0_3 t₀)]; rfl

/-- The table of weights, as the body forms it. -/
theorem weights_eq (c : Dev nD) : weights m c = k0_pay2 (k0_pay1 (xIn m c) (routerIn m c)) (idxM.view.readAt (Elt F) idxCol0.toLoadRect (idxIn m c))
    (idxM.view.readAt (Elt F) idxCol1.toLoadRect (idxIn m c)) := rfl

/-! The device each signal and each copy names. -/

theorem dev1_eq (c : Dev nD) : (⟨k0_dev1 c, k0_dev1_lt c⟩ : Dev nD) = shift (hopB 0) c := Fin.ext (k0_dev1_eq c)
theorem dev2_eq (c : Dev nD) : (⟨k0_dev2 c, k0_dev2_lt c⟩ : Dev nD) = shift (hopB 1) c := Fin.ext (k0_dev2_eq c)
theorem dev3_eq (c : Dev nD) : (⟨k0_dev3 c, k0_dev3_lt c⟩ : Dev nD) = shift (hopB 2) c := Fin.ext (k0_dev3_eq c)
theorem dev4_eq (c : Dev nD) : (⟨k0_dev4 c, k0_dev4_lt c⟩ : Dev nD) = shift (hop 0) c := Fin.ext (k0_dev4_eq c)
theorem dev5_eq (c : Dev nD) : (⟨k0_dev5 c, k0_dev5_lt c⟩ : Dev nD) = shift (hop 1) c := Fin.ext (k0_dev5_eq c)
theorem dev6_eq (c : Dev nD) : (⟨k0_dev6 c, k0_dev6_lt c⟩ : Dev nD) = shift (hop 2) c := Fin.ext (k0_dev6_eq c)
theorem dev7_eq (c : Dev nD) : (⟨k0_dev7 c, k0_dev7_lt c⟩ : Dev nD) = shift (hop 3) c := Fin.ext (k0_dev7_eq c)
theorem dev8_eq (c : Dev nD) : (⟨k0_dev8 c, k0_dev8_lt c⟩ : Dev nD) = shift (hop 4) c := Fin.ext (k0_dev8_eq c)
theorem dev9_eq (c : Dev nD) : (⟨k0_dev9 c, k0_dev9_lt c⟩ : Dev nD) = shift (hop 5) c := Fin.ext (k0_dev9_eq c)

set_option maxHeartbeats 4000000 in
/-- The body, stepped through from `bodyPre` to `bodyPost`. -/
theorem sound_body (c : Dev nD) (Kt : PUnit → sProp 𝕄) :
    iprop(bodyPre m K c ∗ (bodyPost m c -∗ Kt ⟨⟩))
      ⊢ run c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4) Kt := by
  simp only [cc0_body_eq_skeleton]; unfold cc0_body_skel
  simp only [k0_part19_eq_skeleton]; unfold k0_part19_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  unfold bodyPre mine payToks scratch staged
  rw [bigSep_cells c fun g => atPos ER g 0 ∅ 0, bigSep_fin3, bigSep_fin6, bigSep_fin6, bigSep_fin6]
  iintro ⟨⟨⟨⟨#HR, ⟨HaB, Ha0, Ha1, Ha2, Ha3, Ha4, Ha5, Hv0, Hv1, Hv2, Hv3, Hv4, Hv5⟩, ⟨Hb0, Hb1, Hb2⟩, ⟨Hr0, Hr1, Hr2, Hr3, Hr4, Hr5⟩, Hs0, Hs1, Hs2, Hs3, Hs4, Hs5⟩,
      HcB, ⟨Hc0, Hc1, Hc2, Hc3, Hc4, Hc5⟩, #Hlev⟩, ⟨⟨%w0, Hw⟩, HS, HV⟩, Ho,
      ⟨%d0, %g0, %hg0, Hx⟩, ⟨%d1, %g1, %hg1, Hrt⟩, ⟨%d2, %g2, %hg2, Hix⟩, ⟨%d3, %g3, %hg3, Hew⟩, ⟨%d4, %g4, %hg4, Hout⟩⟩, Hk⟩
  rw [before_x] at hg0; rw [before_router] at hg1; rw [before_idx] at hg2; rw [before_expert] at hg3
  subst hg0 hg1 hg2 hg3
  ihave HS := (cut_send c) $$ HS
  ihave HV := (cut_recv c) $$ HV
  rw [bigSep_fin6, bigSep_fin6]
  icases HS with ⟨⟨⟨%s0, HS0⟩, ⟨%s1, HS1⟩, ⟨%s2, HS2⟩, ⟨%s3, HS3⟩, ⟨%s4, HS4⟩, ⟨%s5, HS5⟩⟩, HSr⟩
  icases HV with ⟨⟨HV0, HV1, HV2, HV3, HV4, HV5⟩, HVr⟩
  unfold Dat.owesAt Pipeline.owesWithin
  icases Ho with ⟨%W, %hW, HO⟩
  rw [show (dats m 0 c).owed t₀.castSucc = O₀ c from rfl]
  ihave HD := (show (owes (c : Thread nD τ) (O₀ c) W : sProp 𝕄) ⊢ debts c (O₀ c) from by unfold debts; iintro H; iexists W; iexact H) $$ HO
  -- the three signals
  iapply (step_signal m K c 0 [1, 2] 0 1 rfl rfl _ (dev1_eq c) _ (by decide)) $$ HR HD Hb0 HV0 HV1; iintro HD
  iapply (step_signal m K c 1 [2] 4 5 rfl rfl _ (dev2_eq c) _ (by decide)) $$ HR HD Hb1 HV4 HV5; iintro HD
  iapply (step_signal m K c 2 [] 2 3 rfl rfl _ (dev3_eq c) _ (by decide)) $$ HR HD Hb2 HV2 HV3; iintro HD
  -- the weights of all the tokens, and the four experts
  iapply (wp_load 𝒱₀ (c : Thread nD τ) none Set.univ (m := xM) (Finset.subset_univ _)) $$ Hx; iintro Hx; rw [read_x]
  iapply (wp_load 𝒱₀ (c : Thread nD τ) none Set.univ (m := routerM) (Finset.subset_univ _)) $$ Hrt; iintro Hrt; rw [read_router]
  iapply (wp_load 𝒱₀ (c : Thread nD τ) none Set.univ (m := idxM) (Finset.subset_univ _)) $$ Hix; iintro Hix
  iapply (wp_load 𝒱₀ (c : Thread nD τ) none Set.univ (m := idxM) (Finset.subset_univ _)) $$ Hix; iintro Hix
  iapply (step_load_weights c _) $$ Hw; iintro Hw
  iapply (step_store_weights c _ _) $$ Hw; iintro Hw; rw [← weights_eq]
  iapply (wp_load 𝒱₀ (c : Thread nD τ) none Set.univ (m := expertM) (Finset.subset_univ _)) $$ Hew; iintro Hew; rw [read_expert]
  -- block 0: computed into its send slot
  iapply (step_x m c (shift 2 c) 0 (k0_off1_eq c 1 0)) $$ Hx; iintro Hx
  iapply (step_w m c (shift 2 c) 0 (k0_off2_eq c 1 0)) $$ Hw; iintro Hw
  iapply (step_load_send c 0 _) $$ HS0; iintro HS0
  iapply (step_store_send c 0 _ _) $$ HS0; iintro ⟨%b0, %hb0, HS0⟩
  iapply (step_barrier m K c _ (by decide)) $$ HR Hlev HcB HD HaB; iintro ⟨HD, HzB, HL2, HL5, HL1, HL4, HL0, HL3⟩
  iapply (step_copy m K c 0 [1, 2, 3, 4, 5] _ (dev4_eq c) b0 (hb0.trans (piece0 _ _ _ _))) $$ HR HS0 HL0 HD Hs0 Hr0; iintro ⟨Hcs0, HD⟩
  -- block 1: computed into its send slot, then copied
  iapply (step_x m c (shift 3 c) 0 (k0_off3_eq c 0)) $$ Hx; iintro Hx
  iapply (step_w m c (shift 3 c) 0 (k0_off4_eq c 0)) $$ Hw; iintro Hw
  iapply (step_load_send c 1 _) $$ HS1; iintro HS1
  iapply (step_store_send c 1 _ _) $$ HS1; iintro ⟨%b1, %hb1, HS1⟩
  iapply (step_copy m K c 1 [2, 3, 4, 5] _ (dev5_eq c) b1 (hb1.trans (piece1 _ _ _ _))) $$ HR HS1 HL1 HD Hs1 Hr1; iintro ⟨Hcs1, HD⟩
  -- block 2: computed into its send slot, then copied
  iapply (step_x m c (shift 1 c) 0 (k0_off1_eq c 0 0)) $$ Hx; iintro Hx
  iapply (step_w m c (shift 1 c) 0 (k0_off2_eq c 0 0)) $$ Hw; iintro Hw
  iapply (step_load_send c 2 _) $$ HS2; iintro HS2
  iapply (step_store_send c 2 _ _) $$ HS2; iintro ⟨%b2, %hb2, HS2⟩
  iapply (step_copy m K c 2 [3, 4, 5] _ (dev6_eq c) b2 (hb2.trans (piece2 _ _ _ _))) $$ HR HS2 HL2 HD Hs2 Hr2; iintro ⟨Hcs2, HD⟩
  -- block 3: computed into its send slot, then copied
  iapply (step_x m c (shift 2 c) 1 (k0_off1_eq c 1 1)) $$ Hx; iintro Hx
  iapply (step_w m c (shift 2 c) 1 (k0_off2_eq c 1 1)) $$ Hw; iintro Hw
  iapply (step_load_send c 3 _) $$ HS3; iintro HS3
  iapply (step_store_send c 3 _ _) $$ HS3; iintro ⟨%b3, %hb3, HS3⟩
  iapply (step_copy m K c 3 [4, 5] _ (dev7_eq c) b3 (hb3.trans (piece3 _ _ _ _))) $$ HR HS3 HL3 HD Hs3 Hr3; iintro ⟨Hcs3, HD⟩
  -- block 4: computed into its send slot, then copied
  iapply (step_x m c (shift 3 c) 1 (k0_off3_eq c 1)) $$ Hx; iintro Hx
  iapply (step_w m c (shift 3 c) 1 (k0_off4_eq c 1)) $$ Hw; iintro Hw
  iapply (step_load_send c 4 _) $$ HS4; iintro HS4
  iapply (step_store_send c 4 _ _) $$ HS4; iintro ⟨%b4, %hb4, HS4⟩
  iapply (step_copy m K c 4 [5] _ (dev8_eq c) b4 (hb4.trans (piece4 _ _ _ _))) $$ HR HS4 HL4 HD Hs4 Hr4; iintro ⟨Hcs4, HD⟩
  -- block 5: computed into its send slot, then copied
  iapply (step_x m c (shift 1 c) 1 (k0_off1_eq c 0 1)) $$ Hx; iintro Hx
  iapply (step_w m c (shift 1 c) 1 (k0_off2_eq c 0 1)) $$ Hw; iintro Hw
  iapply (step_load_send c 5 _) $$ HS5; iintro HS5
  iapply (step_store_send c 5 _ _) $$ HS5; iintro ⟨%b5, %hb5, HS5⟩
  iapply (step_copy m K c 5 [] _ (dev9_eq c) b5 (hb5.trans (piece5 _ _ _ _))) $$ HR HS5 HL5 HD Hs5 Hr5; iintro ⟨Hcs5, HD⟩
  ihave HD := (show debts c (owedK c []) ⊢ debts c 0 from Entails.refl _) $$ HD
  -- half 0 of the device's own rows, with the three blocks that arrive for it
  iapply (step_x m c c 0 (k0_off5_eq c 0)) $$ Hx; iintro Hx
  iapply (step_w m c c 0 (k0_off6_eq c 0)) $$ Hw; iintro Hw
  iapply (step_arrival m K c 2) $$ HR Hc2 HD Hv2; iintro ⟨HD, Hzv2, HP⟩
  ihave HP := (show recvPay m c 2 ⊢ iprop(∃ f, ⌜rRead 2 f = sent m (shift 2 c) c 0⌝ ∗ rPts c 2 f) from Entails.refl _) $$ HP
  icases HP with ⟨%a2, %ha2, HV2⟩
  iapply (step_load_recv c 2 _) $$ HV2; iintro HV2; rw [ha2]
  iapply (step_arrival m K c 4) $$ HR Hc4 HD Hv4; iintro ⟨HD, Hzv4, HP⟩
  ihave HP := (show recvPay m c 4 ⊢ iprop(∃ f, ⌜rRead 4 f = sent m (shift 1 c) c 0⌝ ∗ rPts c 4 f) from Entails.refl _) $$ HP
  icases HP with ⟨%a4, %ha4, HV4⟩
  iapply (step_load_recv c 4 _) $$ HV4; iintro HV4; rw [ha4]
  iapply (step_arrival m K c 0) $$ HR Hc0 HD Hv0; iintro ⟨HD, Hzv0, HP⟩
  ihave HP := (show recvPay m c 0 ⊢ iprop(∃ f, ⌜rRead 0 f = sent m (shift 3 c) c 0⌝ ∗ rPts c 0 f) from Entails.refl _) $$ HP
  icases HP with ⟨%a0, %ha0, HV0⟩
  iapply (step_load_recv c 0 _) $$ HV0; iintro HV0; rw [ha0]
  iapply (step_load_out c _) $$ Hout; iintro Hout
  iapply (step_store_out c _ _ _) $$ Hout; iintro Hout
  -- half 1 of the device's own rows, with the three blocks that arrive for it
  iapply (step_x m c c 1 (k0_off5_eq c 1)) $$ Hx; iintro Hx
  iapply (step_w m c c 1 (k0_off6_eq c 1)) $$ Hw; iintro Hw
  iapply (step_arrival m K c 3) $$ HR Hc3 HD Hv3; iintro ⟨HD, Hzv3, HP⟩
  ihave HP := (show recvPay m c 3 ⊢ iprop(∃ f, ⌜rRead 3 f = sent m (shift 2 c) c 1⌝ ∗ rPts c 3 f) from Entails.refl _) $$ HP
  icases HP with ⟨%a3, %ha3, HV3⟩
  iapply (step_load_recv c 3 _) $$ HV3; iintro HV3; rw [ha3]
  iapply (step_arrival m K c 5) $$ HR Hc5 HD Hv5; iintro ⟨HD, Hzv5, HP⟩
  ihave HP := (show recvPay m c 5 ⊢ iprop(∃ f, ⌜rRead 5 f = sent m (shift 1 c) c 1⌝ ∗ rPts c 5 f) from Entails.refl _) $$ HP
  icases HP with ⟨%a5, %ha5, HV5⟩
  iapply (step_load_recv c 5 _) $$ HV5; iintro HV5; rw [ha5]
  iapply (step_arrival m K c 1) $$ HR Hc1 HD Hv1; iintro ⟨HD, Hzv1, HP⟩
  ihave HP := (show recvPay m c 1 ⊢ iprop(∃ f, ⌜rRead 1 f = sent m (shift 3 c) c 1⌝ ∗ rPts c 1 f) from Entails.refl _) $$ HP
  icases HP with ⟨%a1, %ha1, HV1⟩
  iapply (step_load_recv c 1 _) $$ HV1; iintro HV1; rw [ha1]
  iapply (step_load_out c _) $$ Hout; iintro Hout
  iapply (step_store_out c _ _ _) $$ Hout; iintro Hout
  -- the six copies have ended: the send slots come back
  iapply (step_sent m K c 0) $$ HR Hcs0 HD Ha0; iintro ⟨HD, Hzs0, HS0⟩
  iapply (step_sent m K c 1) $$ HR Hcs1 HD Ha1; iintro ⟨HD, Hzs1, HS1⟩
  iapply (step_sent m K c 2) $$ HR Hcs2 HD Ha2; iintro ⟨HD, Hzs2, HS2⟩
  iapply (step_sent m K c 3) $$ HR Hcs3 HD Ha3; iintro ⟨HD, Hzs3, HS3⟩
  iapply (step_sent m K c 4) $$ HR Hcs4 HD Ha4; iintro ⟨HD, Hzs4, HS4⟩
  iapply (step_sent m K c 5) $$ HR Hcs5 HD Ha5; iintro ⟨HD, Hzs5, HS5⟩
  unfold run; rw [wp_ret]; imodintro
  iapply Hk
  unfold bodyPost Φ₁ scratch
  rw [bigSep_cells c fun g => semVal g 0]
  unfold debts; icases HD with ⟨%W', HO⟩
  isplitl [Hw HS0 HS1 HS2 HS3 HS4 HS5 HSr HV0 HV1 HV2 HV3 HV4 HV5 HVr HzB Hzs0 Hzs1 Hzs2 Hzs3 Hzs4 Hzs5 Hzv0 Hzv1 Hzv2 Hzv3 Hzv4 Hzv5]
  · isplitl [Hw HS0 HS1 HS2 HS3 HS4 HS5 HSr HV0 HV1 HV2 HV3 HV4 HV5 HVr]
    · isplitl [Hw]; · iexists _; iexact Hw
      isplitl [HS0 HS1 HS2 HS3 HS4 HS5 HSr]
      · iapply (join_send c s0)
        rw [bigSep_fin6]; unfold sendPay
        isplitr [HSr]; swap; · iexact HSr
        isplitl [HS0]; · iexact HS0
        isplitl [HS1]; · iexact HS1
        isplitl [HS2]; · iexact HS2
        isplitl [HS3]; · iexact HS3
        isplitl [HS4]; · iexact HS4
        iexact HS5
      · iapply (join_recv c a0)
        rw [bigSep_fin6]
        isplitr [HVr]; swap; · iexact HVr
        isplitl [HV0]; · iexists _; iexact HV0
        isplitl [HV1]; · iexists _; iexact HV1
        isplitl [HV2]; · iexists _; iexact HV2
        isplitl [HV3]; · iexists _; iexact HV3
        isplitl [HV4]; · iexists _; iexact HV4
        iexists _; iexact HV5
    · isplitl [HzB]; · iexact HzB
      isplitl [Hzs0]; · iexact Hzs0
      isplitl [Hzs1]; · iexact Hzs1
      isplitl [Hzs2]; · iexact Hzs2
      isplitl [Hzs3]; · iexact Hzs3
      isplitl [Hzs4]; · iexact Hzs4
      isplitl [Hzs5]; · iexact Hzs5
      isplitl [Hzv0]; · iexact Hzv0
      isplitl [Hzv1]; · iexact Hzv1
      isplitl [Hzv2]; · iexact Hzv2
      isplitl [Hzv3]; · iexact Hzv3
      isplitl [Hzv4]; · iexact Hzv4
      iexact Hzv5
  isplitl [HO]
  · unfold Dat.owesAt Pipeline.owesWithin
    rw [show (dats m 0 c).owed t₀.succ = 0 from rfl]
    iexists W'
    isplitr; · (ipureintro; exact fun _ _ => Or.inl trivial)
    iexact HO
  isplitl [Hx]; · iexists xIn m c; isplitr; · (ipureintro; rfl)
                  iexact Hx
  isplitl [Hrt]; · iexists routerIn m c; isplitr; · (ipureintro; rfl)
                   iexact Hrt
  isplitl [Hix]; · iexists idxIn m c; isplitr; · (ipureintro; rfl)
                   iexact Hix
  isplitl [Hew]; · iexists expertIn m c; isplitr; · (ipureintro; rfl)
                   iexact Hew
  iexists _; isplitr; swap; · iexact Hout
  ipureintro
  exact stores_fill m c _

/-- What the staging library asks of the body on one core. -/
theorem body_obligation (c : Dev nD) : BodyObligation (dats (F := F) m 0 c) (defs₀ (F := F)) 𝒱₀ () Set.univ := fun t => by
  rw [fin_N t]
  rw [bigSep_W0, bigSep_W0]
  simp only [owns_whole_eq]
  show iprop(Φ₀ m c ∗ (dats m 0 c).owesAt () t₀.castSucc ∗ staged m c) ⊢ run c
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4) (fun _ => bodyPost m c)
  unfold Φ₀ start
  iintro ⟨⟨⟨⟨%K, Hg⟩, Hrest⟩, Hscr⟩, Ho, Hst⟩
  iapply (sound_body m K c fun _ => bodyPost m c)
  unfold bodyPre
  isplitr []
  · isplitl [Hg Hrest]
    · isplitl [Hg]; · iexact Hg
      iexact Hrest
    isplitl [Hscr]; · iexact Hscr
    isplitl [Ho]; · iexact Ho
    iexact Hst
  · iintro H; iexact H

end Body

end Cert.Moe

end
-- ==== Proof.Launch.lean ====
/-
# Launch: from the machine's initial state to the run of all four devices

The launch deals each device its thirteen semaphores, the ghost state of the protocol and the credits of its waits. The
result is `run_main`: from any memory, at any float values, every execution of the four devices ends, with each device's
arrays at known contents and every semaphore at zero.
-/
module

public import proofs.«01_k».proof.Proof.Body
public import Idealize.ShloMosaic.Lib.Pipeline.CollectiveSegs
public import Idealize.ShloMosaic.Adequacy
public import Idealize.ShloMosaic.Init

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

set_option backward.proofsInPublic true in
/-- The kernel's own semaphores: the six send semaphores, then the six receive semaphores. -/
abbrev osem (i : Fin 12) : SemLoc sig := .dma ⟨5 + i.val, Nat.lt_of_lt_of_le (Nat.add_lt_add_left i.isLt 5) (by decide)⟩

theorem ownSemFacts : Pipeline.OwnSemFacts cfg0.spec osem := by decide

theorem share_full (c : Dev nD) (w : Fin cfg0.W) : (dats m 0 c).share w = fullShare := by unfold Dat.share; split <;> rfl

theorem csem_injective : Function.Injective csem := by
  intro i j h; revert i j; decide

theorem kcell_injective : Function.Injective (kcell : Dev nD × Fin 13 → GSem nD τ sig) := by
  rintro ⟨c, i⟩ ⟨c', i'⟩ h
  have h1 : c = c' := congrArg (fun g : GSem nD τ sig => g.1.1) h
  have h2 : i = i' := csem_injective (congrArg Prod.snd h)
  rw [h1, h2]

def moeCells : Finset (GSem nD τ sig) := Finset.univ.map ⟨kcell, kcell_injective⟩

/-! ## The payments, listed by the device that makes them -/

/-- Payment `i` of device `c`: a signal, a copy's landing, or a copy's end. -/
abbrev tokOf (ci : Dev nD × (Fin 3 ⊕ Fin 6 ⊕ Fin 6)) : GSem nD τ sig × ℕ × Fin 3 := match ci.2 with
  | .inl j => (barCell (shift (hopB j) ci.1), 0, j)
  | .inr (.inl k) => (recvCell (shift (hop k) ci.1) (land k), 0, 0)
  | .inr (.inr k) => (sendCell ci.1 k, 0, 0)

/-- Which device pays and which payment it is can be read off the semaphore and the payment's number. -/
def payer (x : GSem nD τ sig × ℕ × Fin 3) : Dev nD × (Fin 3 ⊕ Fin 6 ⊕ Fin 6) := match x.1.2 with
  | .reg _ => (shift (backB x.2.2) x.1.1.1, .inl x.2.2)
  | .dma q => if q.val < 11 then (x.1.1.1, .inr (.inr (slotOf q))) else (shift (back (copyOf (slotOf q))) x.1.1.1, .inr (.inl (copyOf (slotOf q))))

theorem payer_tokOf (ci : Dev nD × (Fin 3 ⊕ Fin 6 ⊕ Fin 6)) : payer (tokOf ci) = ci := by
  rcases ci with ⟨c, j | k | k⟩
  · show (shift (backB j) (shift (hopB j) c), Sum.inl j) = (c, Sum.inl j)
    rw [shift_backB_hopB]
  · show (if (recvS (land k)).val < 11 then (shift (hop k) c, Sum.inr (Sum.inr (slotOf (recvS (land k))))) else (shift (back (copyOf (slotOf (recvS (land k))))) (shift (hop k) c), Sum.inr (Sum.inl (copyOf (slotOf (recvS (land k))))))) = (c, Sum.inr (Sum.inl k))
    rw [if_neg (recv_not_lt (land k)), slotOf_recv, copyOf_land, shift_back_hop]
  · show (if (sendS k).val < 11 then (c, Sum.inr (Sum.inr (slotOf (sendS k)))) else (shift (back (copyOf (slotOf (sendS k)))) c, Sum.inr (Sum.inl (copyOf (slotOf (sendS k)))))) = (c, Sum.inr (Sum.inr k))
    rw [if_pos (send_lt k), slotOf_send]

def moeToks : Finset (GSem nD τ sig × ℕ × Fin 3) := Finset.univ.map ⟨tokOf, Function.LeftInverse.injective payer_tokOf⟩

/-- The launch's ghost state: the staging library's, and the protocol's. -/
def u₀ : UU :=
  (initOf (Pipeline.cells cfgs cellOf_inj) (Pipeline.launchToks cfgs cellOf_inj), initOf moeCells moeToks)

/-- What it deals device `c`. -/
def G (c : Dev nD) : sProp 𝕄 :=
  iprop((bigSep Finset.univ fun i : Fin 13 => roundState ER (plan m) (kcell (c, i)) 0)
    ∗ (bigSep Finset.univ fun i : Fin 13 => iprop(atPos ER (kcell (c, i)) 0 ∅ 0 ∗ reached ER (kcell (c, i)) 0)) ∗ payToks c)

/-- What the devices make of that together, the semaphores' invariants allocated. -/
def G' (c : Dev nD) : sProp 𝕄 := iprop(∃ K, records m K ∗ mine c)

theorem fund_moe : BI.own (ER (initOf moeCells moeToks)) ⊢ (|==> bigSep Finset.univ (G m) : sProp 𝕄) := by
  have hX (Φ : GSem nD τ sig → sProp 𝕄) : bigSep moeCells Φ = bigSep Finset.univ fun c : Dev nD => bigSep Finset.univ fun i : Fin 13 => Φ (kcell (c, i)) := by
    unfold moeCells; rw [bigSep_map, bigSep_univ_prod]; rfl
  have hT : bigSep moeToks (fun x => (dutyTok ER x.1 x.2.1 x.2.2 : sProp 𝕄)) = bigSep Finset.univ fun c : Dev nD => payToks c := by
    unfold moeToks; rw [bigSep_map, bigSep_univ_prod]
    exact bigSep_congr fun c _ => by rw [bigSep_univ_sum, bigSep_univ_sum]; rfl
  iintro HX
  imod (Rounds.fund ER (plan m) moeCells moeToks) $$ HX with ⟨Hst, Hr, Hat, Htok⟩
  imodintro
  ihave Hst := (Entails.of_eq (hX fun g => roundState ER (plan m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem ownSems_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0 ∗ semVal (sendCell c 4) 0 ∗ semVal (sendCell c 5) 0
      ∗ semVal (recvCell c 0) 0 ∗ semVal (recvCell c 1) 0 ∗ semVal (recvCell c 2) 0 ∗ semVal (recvCell c 3) 0 ∗ semVal (recvCell c 4) 0 ∗ semVal (recvCell c 5) 0) := by
  rw [Pipeline.ownSems0_eq_of_list c osem [0, 1, 2, 3, 4, 5, 6, 7, 8, 9, 10, 11] (by decide) (by decide)]; rfl
omit [FloatOps F] in
theorem unscopedSems_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores are the kernel's own and the barrier. -/
theorem sems_eq (c : Dev nD) :
    (bigSep Finset.univ fun i : Fin 13 => semVal (kcell (c, i)) 0 : sProp 𝕄)
      = iprop(unscopedSems0 c ∗ Pipeline.ownSems0 (Ix := Unit) (Name := ℕ) (U := UU) (Lvl := ℕ) (Val := Elt F) (τ := τ) osem c) := by
  rw [ownSems_eq, unscopedSems_eq, bigSep_cells c fun g => semVal g 0, kcell_bar]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (plan m) κ (kcell (c, i))))
          ∗ (bigSep Finset.univ fun i => iprop(atPos ER (kcell (c, i)) 0 ∅ 0 ∗ reached ER (kcell (c, i)) 0)) ∗ payToks c) := by
  have halloc : iprop((bigSep Finset.univ fun i : Fin 13 => semVal (kcell (c, i)) 0) ∗ bigSep Finset.univ fun i : Fin 13 => roundState ER (plan m) (kcell (c, i)) 0)
      ⊢ (|={Set.univ}=> bigSep Finset.univ fun i => iprop(∃ κ : ℕ, cellInv ER (plan m) κ (kcell (c, i))) : sProp 𝕄) := by
    rw [← bigSep_sep']
    exact (bigSep_mono fun i _ => (Rounds.body_intro ER (plan m) (kcell (c, i))).trans inv_alloc).trans (bigSep_fupd _ _)
  unfold G
  iintro ⟨Hos, Hus, Hst, Hat, Htok⟩
  ihave Hv := (Entails.of_eq (sems_eq (F := F) c).symm) $$ [Hos Hus]
  · isplitl [Hus] <;> iassumption
  imod halloc $$ [Hv Hst] with Hinv
  · isplitl [Hv] <;> iassumption
  imodintro
  isplitl [Hinv]; · iexact Hinv
  isplitl [Hat]; · iexact Hat
  iexact Htok

omit [FloatOps F] in
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (plan m) κ (kcell (c, i))))
          ∗ (bigSep Finset.univ fun i => iprop(atPos ER (kcell (c, i)) 0 ∅ 0 ∗ reached ER (kcell (c, i)) 0)) ∗ payToks c) : sProp 𝕄)
      ⊢ bigSep Finset.univ (G' m) := by
  rw [bigSep_sep', bigSep_sep', ← bigSep_univ_prod (fun ci : Dev nD × Fin 13 => iprop(∃ κ : ℕ, cellInv ER (plan m) κ (kcell ci))),
    bigSep_congr (s := Finset.univ) (fun (c : Dev nD) _ => bigSep_sep' Finset.univ (fun i : Fin 13 => (atPos ER (kcell (c, i)) 0 ∅ 0 : sProp 𝕄)) (fun i => reached ER (kcell (c, i)) 0)),
    bigSep_sep', ← bigSep_univ_prod (fun ci : Dev nD × Fin 13 => (reached ER (kcell ci) 0 : sProp 𝕄))]
  iintro ⟨HI, ⟨Hat, #HR⟩, Htok⟩
  ihave HK := (BI.bigSep_exists_pi Finset.univ (fun (ci : Dev nD × Fin 13) (κ : ℕ) => (cellInv ER (plan m) κ (kcell ci) : sProp 𝕄))) $$ HI
  icases HK with ⟨%K, #HI⟩
  iapply (bigSep_share (R := records m K) (Φ := mine) fun c _ => show iprop(records m K ∗ mine c) ⊢ G' m c from by
    unfold G'; iintro H; iexists K; iexact H)
  isplitr
  · unfold records; isplitl; · iexact HI
    iexact HR
  · iapply (Entails.of_eq (bigSep_sep' Finset.univ (fun c : Dev nD => bigSep Finset.univ fun i : Fin 13 => (atPos ER (kcell (c, i)) 0 ∅ 0 : sProp 𝕄)) payToks).symm)
    isplitl [Hat]; · iexact Hat
    iexact Htok

/-- The devices' step at launch, all of them at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits of a device's waits -/

section Credits
omit [FloatOps F]

/-- How many of the copies `ks` of device `d` land in slot `s` of device `c`, and how many of its signals `js` reach `c`. -/
def copiesTo (d c : Dev nD) (s : Fin 6) : List (Fin 6) → ℕ
  | [] => 0
  | k :: ks => copiesTo d c s ks + if shift (hop k) d = c ∧ land k = s then 1 else 0
def signalsTo (d c : Dev nD) : List (Fin 3) → ℕ
  | [] => 0
  | j :: js => signalsTo d c js + if shift (hopB j) d = c then 1 else 0

theorem recv_iff (a b : Dev nD) (s t : Fin 6) : recvCell a s = recvCell b t ↔ b = a ∧ t = s :=
  ⟨fun h => ⟨(congrArg (fun g : GSem nD τ sig => g.1.1) h).symm, by
    have h2 := congrArg (fun g : GSem nD τ sig => match g.2 with | .dma q => slotOf q | .reg _ => 0) h
    simp only [slotOf_recv] at h2
    exact h2.symm⟩, fun ⟨h1, h2⟩ => by rw [h1, h2]⟩
theorem bar_iff (a b : Dev nD) : barCell a = barCell b ↔ b = a :=
  ⟨fun h => (congrArg (fun g : GSem nD τ sig => g.1.1) h).symm, fun h => by rw [h]⟩
theorem bar_ne_recv (a b : Dev nD) (s : Fin 6) : barCell a ≠ recvCell b s := fun h => by cases congrArg Prod.snd h

theorem owedK_recv (d c : Dev nD) (s : Fin 6) : ∀ ks, owedK d ks (recvCell c s) () = copiesTo d c s ks * N
  | [] => (Nat.zero_mul _).symm
  | k :: ks => by
    unfold owedK copiesTo
    rw [Pi.add_apply, Finsupp.add_apply, owedK_recv d c s ks, tallyAt_apply, Nat.add_mul]
    congr 1
    by_cases h : shift (hop k) d = c ∧ land k = s
    · rw [if_pos h, if_pos ⟨(recv_iff _ _ _ _).2 h, rfl⟩, Nat.one_mul]
    · rw [if_neg h, if_neg (fun h' => h ((recv_iff _ _ _ _).1 h'.1)), Nat.zero_mul]
theorem owedK_bar (d c : Dev nD) : ∀ ks, owedK d ks (barCell c) () = 0
  | [] => rfl
  | k :: ks => by
    unfold owedK
    rw [Pi.add_apply, Finsupp.add_apply, owedK_bar d c ks, tallyAt_apply, if_neg (fun h' => bar_ne_recv _ _ _ h'.1)]
theorem owedB_recv (d c : Dev nD) (s : Fin 6) : ∀ js, owedB d js (recvCell c s) () = copiesTo d c s [0, 1, 2, 3, 4, 5] * N
  | [] => owedK_recv d c s _
  | j :: js => by
    unfold owedB
    rw [Pi.add_apply, Finsupp.add_apply, owedB_recv d c s js, tallyAt_apply, if_neg (fun h' => bar_ne_recv _ _ _ h'.1.symm), Nat.add_zero]
theorem owedB_bar (d c : Dev nD) : ∀ js, owedB d js (barCell c) () = signalsTo d c js
  | [] => owedK_bar d c _
  | j :: js => by
    unfold owedB signalsTo
    rw [Pi.add_apply, Finsupp.add_apply, owedB_bar d c js, tallyAt_apply]
    congr 1
    by_cases h : shift (hopB j) d = c
    · rw [if_pos h, if_pos ⟨(bar_iff _ _).2 h, rfl⟩]
    · rw [if_neg h, if_neg (fun h' => h ((bar_iff _ _).1 h'.1))]

/-- Every slot receives exactly one copy, and every barrier three signals. -/
theorem one_copy (c : Dev nD) (s : Fin 6) : ∑ d : Dev nD, copiesTo d c s [0, 1, 2, 3, 4, 5] = 1 := by revert c s; decide
theorem three_signals (c : Dev nD) : ∑ d : Dev nD, signalsTo d c [0, 1, 2] = 3 := by revert c; decide

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owedB_bar d c _, three_signals]
theorem launch_recv (c : Dev nD) (s : Fin 6) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owedB_recv d c s _, ← Finset.sum_mul, one_copy, Nat.one_mul]

theorem recvLoc_injective : Function.Injective fun s : Fin 6 => (SemLoc.dma (recvS s) : SemLoc sig) := by intro s t h; revert s t; decide

theorem creds (c : Dev nD) :
    (Pipeline.launchCred O₀ c : sProp 𝕄)
      ⊢ iprop(cred (tallyAt (barCell c) () 3) ∗ bigSep Finset.univ fun s : Fin 6 => cred (tallyAt (recvCell c s) () N)) := by
  unfold Pipeline.launchCred
  rw [bigSep_univ_at _ (SemLoc.reg barS), launch_bar]
  refine sep_mono_right ?_
  refine (bigSep_subset (t := Finset.univ.map ⟨fun s : Fin 6 => (SemLoc.dma (recvS s) : SemLoc sig), recvLoc_injective⟩) fun x hx => ?_).trans ?_
  · obtain ⟨s, -, rfl⟩ := Finset.mem_map.1 hx
    exact Finset.mem_erase.mpr ⟨fun h => (by cases h), Finset.mem_univ _⟩
  · rw [bigSep_map]
    exact Entails.of_eq (bigSep_congr fun s _ => by rw [← launch_recv]; rfl)

end Credits

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratch
  rw [sems_eq]
  iintro ⟨Hr, HzU, HzO⟩
  isplitl [HzU]; · iexact HzU
  isplitl [HzO]; · iexact HzO
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- At any float values and from any memory, every execution of the four devices ends, with every array at the contents
    the staging library computes from the body's and with every semaphore at zero. -/
theorem run_main : θ_run defs (onTc (τ := τ) (main (F := F))) ⟨m, fun _ => 0, ρ⟩ (fun r =>
    (∀ c : Dev nD, ∀ w : Fin cfg0.W, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_moe m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Frames.lean ====
/-
# Frames: each program ends, leaves its arguments as they were and every semaphore at zero

The kernel's run is `run_main`, at the machine's float values and at exact ones; the reference's is its operations' own.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Moe

open Cert.KernelIdeal Cert.KernelIdeal.Gen
open Idealize.ShloMosaic Idealize.ShloMosaic.TcCoe Idealize.SL.Sem

variable {F : FTy → Type} [FloatOps F]

/-- The kernel's run, read at its arguments and its result. -/
theorem run_arrays (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v1) = (dats m 0 c).arrAt (4 : Fin 5) cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨h.1 c (4 : Fin 5),
      (h.1 c (0 : Fin 5)).trans ((dats m 0 c).arrAt_in (0 : Fin 5) rfl _),
      (h.1 c (1 : Fin 5)).trans ((dats m 0 c).arrAt_in (1 : Fin 5) rfl _),
      (h.1 c (2 : Fin 5)).trans ((dats m 0 c).arrAt_in (2 : Fin 5) rfl _),
      (h.1 c (3 : Fin 5)).trans ((dats m 0 c).arrAt_in (3 : Fin 5) rfl _)⟩, h.2⟩)
    (run_main m ρ)

/-- The kernel's body table is the same in both printings of the module. -/
theorem same_bodies : Cert.Kernel.defs₀ (F := F) = Cert.KernelIdeal.defs₀ (F := F) := by
  refine congrArg Defs.onTc (funext fun ℓ => ?_)
  match ℓ with
  | 0 => rfl

theorem same_defs : Cert.Kernel.defs (F := F) = Cert.KernelIdeal.defs (F := F) :=
  congrArg (Pipeline.defs Cert.Kernel.pcfgs) same_bodies

/-- The kernel over machine floats ends with its arguments unchanged and its semaphores at zero. -/
theorem frame_kernel : Cert.quiescent_Kernel := fun m ρ _ => by
  have h := run_arrays (F := Bits) m ρ
  rw [← same_defs] at h
  exact (θ_run Cert.Kernel.defs _ _).mono (fun _ h => ⟨fun c => (h.1 c).2, h.2⟩) h

/-- The same over exact values. -/
theorem frame_ideal : Cert.quiescent_KernelIdeal := fun m ρ _ =>
  (θ_run Cert.KernelIdeal.defs _ _).mono (fun _ h => ⟨fun c => (h.1 c).2, h.2⟩) (run_arrays (F := Ideal) m ρ)

/-- The reference ends with its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Router.lean ====
/-
# The mathematics of the layer, over extended reals

The router's scores, its softmax, and the mixture of a token's two experts, written as plain sums; and the facts that
make the two ways of mixing equal: each gate is a positive real number, and a real factor that isn't negative may be
moved in or out of a sum of any extended reals.
-/
module

public import Idealize.ShloMosaic.Lib.Pointwise

@[expose] public section

noncomputable section

namespace Cert.Moe

open Idealize.ShloMosaic

/-! ## Sums with a common factor -/

/-- A nonnegative real factor goes through a sum of extended reals. -/
theorem factor_sum {ι : Type*} (s : Finset ι) (w : ℝ) (hw : 0 ≤ w) (f : ι → EReal) : ∑ i ∈ s, (w : EReal) * f i = (w : EReal) * ∑ i ∈ s, f i := by
  classical
  induction s using Finset.induction_on with
  | empty => simp
  | insert a s ha ih => rw [Finset.sum_insert ha, Finset.sum_insert ha, ih, EReal.left_distrib_of_nonneg_of_ne_top (by exact_mod_cast hw) (EReal.coe_ne_top w)]

/-- Rows scaled before a product give the scaled product. -/
theorem scaled_sum {ι : Type*} [Fintype ι] (w : ℝ) (hw : 0 ≤ w) (x y : ι → EReal) : ∑ i, x i * (w : EReal) * y i = (w : EReal) * ∑ i, x i * y i := by
  rw [← factor_sum _ w hw]
  exact Finset.sum_congr rfl fun i _ => by rw [mul_comm (x i), mul_assoc]

/-- A finite sum of real numbers is one. -/
theorem real_sum {ι : Type*} (s : Finset ι) (f : ι → EReal) (h : ∀ i, ∃ a : ℝ, f i = a) : ∃ a : ℝ, ∑ i ∈ s, f i = a := by
  choose g hg using h
  refine ⟨∑ i ∈ s, g i, ?_⟩
  rw [Finset.sum_congr rfl fun i _ => hg i]
  classical
  induction s using Finset.induction_on with
  | empty => simp
  | insert a s ha ih => rw [Finset.sum_insert ha, Finset.sum_insert ha, ih, EReal.coe_add]

/-- A nonempty sum of positive real numbers is one. -/
theorem pos_sum {ι : Type*} [Fintype ι] [Nonempty ι] (f : ι → EReal) (h : ∀ i, ∃ a : ℝ, 0 < a ∧ f i = a) : ∃ a : ℝ, 0 < a ∧ ∑ i, f i = a := by
  choose g hg using h
  obtain ⟨a, ha⟩ := real_sum Finset.univ (fun i => ((g i : ℝ) : EReal)) fun i => ⟨_, rfl⟩
  have hs : (∑ i, ((g i : ℝ) : EReal)) = ((∑ i, g i : ℝ) : EReal) := by
    have key : ∀ s : Finset ι, (∑ i ∈ s, ((g i : ℝ) : EReal)) = ((∑ i ∈ s, g i : ℝ) : EReal) := fun s => by
      classical
      induction s using Finset.induction_on with
      | empty => simp
      | insert b s hb ih => rw [Finset.sum_insert hb, Finset.sum_insert hb, ih, EReal.coe_add]
    exact key _
  exact ⟨∑ i, g i, Finset.sum_pos (fun i _ => (hg i).1) Finset.univ_nonempty, (Finset.sum_congr rfl fun i _ => (hg i).2).trans hs⟩

/-- The largest of finitely many real numbers, started from minus infinity, is one of them. -/
theorem fold_max_real {ι : Type*} (f : ι → EReal) (h : ∀ i, ∃ a : ℝ, f i = a) (s : Finset ι) (hs : s.Nonempty) :
    ∃ a : ℝ, s.fold max (Ideal.ofBits .f32 0xFF800000#32) f = a := by
  classical
  have hb : Ideal.ofBits .f32 0xFF800000#32 = ⊥ := by simp [Ideal.ofBits, Ideal.ieee]
  rw [hb]
  induction hs using Finset.Nonempty.cons_induction with
  | singleton i => obtain ⟨a, ha⟩ := h i; exact ⟨a, by rw [Finset.fold_singleton, ha]; exact max_bot_right _⟩
  | cons i s hi _ ih =>
    obtain ⟨a, ha⟩ := h i
    obtain ⟨b, hb'⟩ := ih
    exact ⟨max a b, by rw [Finset.fold_cons, ha, hb']; exact (EReal.coe_strictMono.monotone.map_max).symm⟩

/-- Positive real over positive real. -/
theorem div_pos_real (a b : ℝ) (ha : 0 < a) (hb : 0 < b) : ∃ p : ℝ, 0 < p ∧ Ideal.div (a : EReal) (b : EReal) = p :=
  ⟨a * (1 / b), by positivity, by rw [Ideal.div_coe hb.ne', EReal.coe_mul]⟩

/-! ## The router -/

section Router
variable (X : FVec Ideal ⟨2, ![1024, 256]⟩ .f32) (R : FVec Ideal ⟨2, ![256, 16]⟩ .f32)

/-- The score of token `n` for expert `e`. -/
def score (n : Fin 1024) (e : Fin 16) : EReal := ∑ d, X (ix2 n d) * R (ix2 d e)
/-- Its exponential, after the token's largest score is taken off. -/
def bump (n : Fin 1024) (e : Fin 16) : EReal := Ideal.exp (score X R n e - Finset.fold max (Ideal.ofBits .f32 0xFF800000#32) (score X R n) Finset.univ)
/-- The softmax over the sixteen experts. -/
def gate (n : Fin 1024) (e : Fin 16) : EReal := Ideal.div (bump X R n e) (∑ k, bump X R n k)

/-- Over finite tokens and a finite router every gate is a positive real number. -/
theorem gate_pos (hX : ∀ i, ∃ a : ℝ, X i = (a : EReal)) (hR : ∀ i, ∃ a : ℝ, R i = (a : EReal)) (n : Fin 1024) (e : Fin 16) :
    ∃ p : ℝ, 0 < p ∧ gate X R n e = p := by
  have hscore : ∀ k, ∃ a : ℝ, score X R n k = a := fun k => real_sum _ _ fun d => by
    obtain ⟨a, ha⟩ := hX (ix2 n d)
    obtain ⟨b, hb⟩ := hR (ix2 d k)
    exact ⟨a * b, by rw [ha, hb, EReal.coe_mul]⟩
  obtain ⟨t, ht⟩ := fold_max_real (score X R n) hscore Finset.univ Finset.univ_nonempty
  have hbump : ∀ k, ∃ a : ℝ, 0 < a ∧ bump X R n k = a := fun k => by
    obtain ⟨a, ha⟩ := hscore k
    exact ⟨Real.exp (a - t), Real.exp_pos _, by unfold bump; rw [ha, ht, ← EReal.coe_sub, Ideal.exp_coe]⟩
  obtain ⟨a, ha, ea⟩ := hbump e
  obtain ⟨b, hb, eb⟩ := pos_sum _ hbump
  unfold gate
  rw [ea, eb]
  exact div_pos_real a b ha hb

end Router

/-! ## The mixture of two experts -/

/-- A routed expert's weight: the gate over the sum of the routed gates; nothing for an expert that isn't routed to. -/
def weight (g : Fin 16 → EReal) (a b e : Fin 16) : EReal :=
  Ideal.div (g e * (if a = e ∨ b = e then ((1 : ℝ) : EReal) else ((0 : ℝ) : EReal))) (∑ k, g k * (if a = k ∨ b = k then ((1 : ℝ) : EReal) else ((0 : ℝ) : EReal)))

theorem weight_sum {g : Fin 16 → EReal} {p : Fin 16 → ℝ} (hg : ∀ e, g e = p e) (a b : Fin 16) :
    (∑ k, g k * (if a = k ∨ b = k then ((1 : ℝ) : EReal) else ((0 : ℝ) : EReal))) = ((if a = b then p a else p a + p b : ℝ) : EReal) := by
  have h : ∀ k, g k * (if a = k ∨ b = k then ((1 : ℝ) : EReal) else ((0 : ℝ) : EReal)) = if a = k ∨ b = k then ((p k : ℝ) : EReal) else 0 := fun k => by
    rw [hg]; split_ifs <;> simp
  rw [Finset.sum_congr rfl fun k _ => h k, ← Finset.sum_filter]
  by_cases e : a = b
  · subst e
    rw [if_pos rfl, show (Finset.univ.filter fun k => a = k ∨ a = k) = {a} by ext k; simp [eq_comm], Finset.sum_singleton]
  · rw [if_neg e, show (Finset.univ.filter fun k => a = k ∨ b = k) = {a, b} by ext k; simp [eq_comm], Finset.sum_pair e, EReal.coe_add]

/-- Each weight as a real number. -/
theorem weight_eq {g : Fin 16 → EReal} {p : Fin 16 → ℝ} (hp : ∀ e, 0 < p e) (hg : ∀ e, g e = p e) (a b e : Fin 16) :
    weight g a b e = ((if a = e ∨ b = e then p e * (1 / if a = b then p a else p a + p b) else 0 : ℝ) : EReal) := by
  have hpos : (0 : ℝ) < if a = b then p a else p a + p b := by
    have := hp a; have := hp b; split_ifs <;> linarith
  unfold weight
  rw [weight_sum hg, hg, Ideal.div_coe hpos.ne']
  split_ifs <;> simp [← EReal.coe_mul]

/-- The mixture: what every expert makes of a token, each with its weight, is the two routed experts' values, each with
    its share of the two gates. -/
theorem mixture {g : Fin 16 → EReal} {p : Fin 16 → ℝ} (hp : ∀ e, 0 < p e) (hg : ∀ e, g e = p e) (a b : Fin 16) (A : Fin 16 → EReal) :
    ∑ e, weight g a b e * A e = Ideal.div (g a) (g a + g b) * A a + Ideal.div (g b) (g a + g b) * A b := by
  have hab : (0 : ℝ) < p a + p b := add_pos (hp a) (hp b)
  have hterm : ∀ e, weight g a b e * A e = if a = e ∨ b = e then weight g a b e * A e else 0 := fun e => by
    split_ifs with h
    · rfl
    · rw [weight_eq hp hg, if_neg h]; simp
  rw [Finset.sum_congr rfl fun e _ => hterm e, ← Finset.sum_filter, hg a, hg b, ← EReal.coe_add, Ideal.div_coe hab.ne', Ideal.div_coe hab.ne', ← EReal.coe_mul, ← EReal.coe_mul]
  by_cases e : a = b
  · subst e
    rw [show (Finset.univ.filter fun k => a = k ∨ a = k) = {a} by ext k; simp [eq_comm], Finset.sum_singleton, weight_eq hp hg, if_pos (.inl rfl), if_pos rfl]
    have hn : (0 : EReal) ≤ ((p a * (1 / (p a + p a)) : ℝ) : EReal) := by
      have := hp a; exact_mod_cast (by positivity : (0 : ℝ) ≤ p a * (1 / (p a + p a)))
    rw [← EReal.right_distrib_of_nonneg hn hn, ← EReal.coe_add]
    congr 2
    have := (hp a).ne'
    field_simp
  · rw [show (Finset.univ.filter fun k => a = k ∨ b = k) = {a, b} by ext k; simp [eq_comm], Finset.sum_pair e, weight_eq hp hg, weight_eq hp hg]
    simp only [e, true_or, or_true, if_true, if_false]

/-- A weight isn't negative. -/
theorem weight_nonneg {g : Fin 16 → EReal} {p : Fin 16 → ℝ} (hp : ∀ e, 0 < p e) (hg : ∀ e, g e = p e) (a b e : Fin 16) :
    ∃ w : ℝ, 0 ≤ w ∧ weight g a b e = w := by
  refine ⟨_, ?_, weight_eq hp hg a b e⟩
  have := hp a; have := hp b; have := hp e
  split_ifs <;> positivity

end Cert.Moe

end
-- ==== Proof.Table.lean ====
/-
# The kernel's values over extended reals

The kernel's table of weights and its product, read one element at a time: the table is the softmax restricted to the two
routed experts and divided by its row sum, and the product is a sum over the device's four experts.
-/
module

public import proofs.«01_k».proof.Proof.Contents
public import proofs.«01_k».proof.Proof.Router
public import Idealize.ShloMosaic.Lib.Pipeline.ValueKit

@[expose] public section

set_option maxRecDepth 16384

noncomputable section

namespace Cert.Moe

open Cert.KernelIdeal Cert.KernelIdeal.Gen
open Idealize.ShloMosaic
open Idealize.ShloMosaic.TcCoe

/-! ## The masks -/

/-- A comparison's bit, widened and turned into a number. -/
theorem flag_num (b : BitVec 1) : (FloatOps.sitofp .f32 (BitVec.setWidth 32 b) : Ideal .f32) = if b = 1#1 then ((1 : ℝ) : EReal) else ((0 : ℝ) : EReal) := by
  show (((BitVec.setWidth 32 b).toInt : ℝ) : EReal) = _
  have h : (BitVec.setWidth 32 b).toInt = if b = 1#1 then 1 else 0 := by revert b; decide
  rw [h]; split_ifs <;> simp

/-- The kernel's mask for local expert `j` of device `c` marks the column of expert `4 * c + j`. -/
theorem local_mask : ∀ (c : Dev nD) (j : Fin 4) (l : Fin 16),
    (IntOp.cmpi .eq (BitVec.ofNat 32 l.val) (Scalar.addi (Scalar.muli (me c) 4#32) (BitVec.ofNat 32 j.val)) = 1#1) ↔ l.val = 4 * c.val + j.val := by decide +kernel

/-- The kernel's mask of routed experts marks the columns of the two. -/
theorem routed_mask : ∀ a b e : Fin 16,
    (IntOp.ori (IntOp.cmpi .eq (BitVec.ofNat 32 a.val) (BitVec.ofNat 32 e.val)) (IntOp.cmpi .eq (BitVec.ofNat 32 b.val) (BitVec.ofNat 32 e.val)) = 1#1) ↔ (a = e ∨ b = e) := by decide +kernel

/-! ## The table of weights -/

/-- The kernel's softmax. -/
theorem pay1_eq (x : FVec Ideal S1024x256 .f32) (w : FVec Ideal S256x16 .f32) (n : Fin 1024) (e : Fin 16) :
    k0_pay1 (F := Ideal) x w (ix2 n e) = gate x w n e := by
  pointwise [k0_pay1]
  rfl

/-- The kernel's weights, given the two routed experts of the token. -/
theorem pay2_eq (q : FVec Ideal S1024x16 .f32) (a b : IVec S1024x1 32) (n : Fin 1024) (e : Fin 16) (ea eb : Fin 16)
    (ha : a (ix2 n 0) = BitVec.ofNat 32 ea.val) (hb : b (ix2 n 0) = BitVec.ofNat 32 eb.val) :
    k0_pay2 (F := Ideal) q a b (ix2 n e) = weight (fun k => q (ix2 n k)) ea eb e := by
  have h : k0_pay2 (F := Ideal) q a b (ix2 n e) = Ideal.div (q (ix2 n e) * FloatOps.sitofp (F := Ideal) .f32 (BitVec.setWidth 32 (IntOp.ori (IntOp.cmpi .eq (a (ix2 n 0)) (BitVec.ofNat 32 e.val)) (IntOp.cmpi .eq (b (ix2 n 0)) (BitVec.ofNat 32 e.val)))))
      (∑ k : Fin 16, q (ix2 n k) * FloatOps.sitofp (F := Ideal) .f32 (BitVec.setWidth 32 (IntOp.ori (IntOp.cmpi .eq (a (ix2 n 0)) (BitVec.ofNat 32 k.val)) (IntOp.cmpi .eq (b (ix2 n 0)) (BitVec.ofNat 32 k.val))))) := by
    pointwise [k0_pay2]
  rw [h, ha, hb]
  unfold weight
  simp only [flag_num, routed_mask]

/-! ## The product -/

/-- Four runs of 256 laid side by side, read at a position. -/
theorem side_by_side (f : Fin 4 → Fin 256 → EReal) (y : Fin 1024) (h3 : ¬ y.val < 256 → ¬ y.val - 256 < 256 → ¬ y.val - 256 - 256 < 256 → y.val - 256 - 256 - 256 < 256) :
    (if h : y.val < 256 then f 0 ⟨y.val, h⟩ else if h : y.val - 256 < 256 then f 1 ⟨y.val - 256, h⟩ else if h : y.val - 256 - 256 < 256 then f 2 ⟨y.val - 256 - 256, h⟩
      else f 3 ⟨y.val - 256 - 256 - 256, h3 ‹_› ‹_› ‹_›⟩) = f ⟨y.val / 256, by omega⟩ ⟨y.val % 256, by omega⟩ := by
  split_ifs <;> (congr 1 <;> refine Fin.ext ?_ <;> simp <;> omega)

/-- One block's product with four experts, whose columns in the weights are `col`. -/
theorem product_cols (v : BitVec 32) (col : Fin 4 → Fin 16)
    (hv : ∀ (j : Fin 4) (l : Fin 16), (IntOp.cmpi .eq (BitVec.ofNat 32 l.val) (Scalar.addi (Scalar.muli v 4#32) (BitVec.ofNat 32 j.val)) = 1#1) ↔ l = col j)
    (E : FVec Ideal S4x256x512 .f32) (x : FVec Ideal S128x256 .f32) (w : FVec Ideal S128x16 .f32) (r : Fin 128) (k : Fin 512) :
    product (F := Ideal) v (k0_pay3 E) x w (ix2 r k) = ∑ j : Fin 4, ∑ d : Fin 256, x (ix2 r d) * w (ix2 r (col j)) * E (ix3 j d k) := by
  have hw : ∀ j : Fin 4, (∑ l : Fin 16, w (ix2 r l) * FloatOps.sitofp (F := Ideal) .f32 (BitVec.setWidth 32 (IntOp.cmpi .eq (BitVec.ofNat 32 l.val) (Scalar.addi (Scalar.muli v 4#32) (BitVec.ofNat 32 j.val)))))
      = w (ix2 r (col j)) := fun j => by
    simp only [flag_num, hv]
    rw [Finset.sum_eq_single (col j)]
    · rw [if_pos rfl]; simp
    · intro l _ hl
      rw [if_neg hl]; simp
    · intro h; exact absurd (Finset.mem_univ _) h
  pointwise [product, scaled, k0_pay3]
  have h0 := hw 0
  have h1 := hw 1
  have h2 := hw 2
  have h3 := hw 3
  simp only [Fin.val_zero, Fin.val_one, Fin.val_two, show ((3 : Fin 4) : ℕ) = 3 from rfl] at h0 h1 h2 h3
  rw [h0, h1, h2, h3]
  rw [Finset.sum_congr rfl fun y _ => congrArg (· * _) (side_by_side (fun j d => x (ix2 r d) * w (ix2 r (col j))) y fun _ _ _ => by omega)]
  rw [Fin.sum_univ_tiles 4 256 rfl]
  refine Finset.sum_congr rfl fun j _ => Finset.sum_congr rfl fun d _ => ?_
  have hd := d.isLt
  have e1 : (⟨(j.val * 256 + d.val) / 256, by omega⟩ : Fin 4) = j := Fin.ext (by show (j.val * 256 + d.val) / 256 = j.val; omega)
  have e2 : (⟨(j.val * 256 + d.val) % 256, by omega⟩ : Fin 256) = d := Fin.ext (by show (j.val * 256 + d.val) % 256 = d.val; omega)
  rw [e1, e2]

set_option backward.proofsInPublic true in
/-- The number of local expert `j` of device `c`. -/
def expertOf (c : Dev nD) (j : Fin 4) : Fin 16 := ⟨4 * c.val + j.val, by have hc : c.val < 4 := c.isLt; omega⟩

/-- One block's product with a device's four experts. -/
theorem product_eq (c : Dev nD) (E : FVec Ideal S4x256x512 .f32) (x : FVec Ideal S128x256 .f32) (w : FVec Ideal S128x16 .f32) (r : Fin 128) (k : Fin 512) :
    product (F := Ideal) (me c) (k0_pay3 E) x w (ix2 r k) = ∑ j : Fin 4, ∑ d : Fin 256, x (ix2 r d) * w (ix2 r (expertOf c j)) * E (ix3 j d k) :=
  product_cols (me c) (expertOf c) (fun j l => (local_mask c j l).trans ⟨fun h => Fin.ext h, fun h => congrArg Fin.val h⟩) E x w r k

end Cert.Moe

end
-- ==== Proof.Reads.lean ====
/-
# What the devices hold, read from the arrays

The staged inputs are the arrays themselves, a device's rows are the arrays' rows, and the array each device returns is
what its body left in the result's staging buffer.
-/
module

public import proofs.«01_k».proof.Proof.Table
public import proofs.«01_k».proof.Proof.Frames

@[expose] public section

set_option maxRecDepth 16384

noncomputable section

namespace Cert.Moe

open Cert.KernelIdeal Cert.KernelIdeal.Gen
open Idealize.ShloMosaic
open Idealize.ShloMosaic.TcCoe

variable (m : (ℓ : Loc nD τ sig) → Buf (Elt Ideal) ℓ)

theorem xIn_eq (c : Dev nD) : xIn m c = m ((c : Thread nD τ).loc main_arg0) := by
  unfold xIn; exact Memref.read_access_unit_zero (Elt Ideal) _ (funext fun a => by fin_cases a <;> decide) _ _
theorem routerIn_eq (c : Dev nD) : routerIn m c = m ((c : Thread nD τ).loc main_arg1) := by
  unfold routerIn; exact Memref.read_access_unit_zero (Elt Ideal) _ (funext fun a => by fin_cases a <;> decide) _ _
theorem idxIn_eq (c : Dev nD) : idxIn m c = m ((c : Thread nD τ).loc main_arg2) := by
  unfold idxIn; exact Memref.read_access_unit_zero (Elt Ideal) _ (funext fun a => by fin_cases a <;> decide) _ _
theorem expertIn_eq (c : Dev nD) : expertIn m c = m ((c : Thread nD τ).loc main_arg3) := by
  unfold expertIn; exact Memref.read_access_unit_zero (Elt Ideal) _ (funext fun a => by fin_cases a <;> decide) _ _

set_option backward.proofsInPublic true in
/-- Row `r` of half `h` of device `t`'s rows, among all the tokens. -/
def token (t : Dev nD) (h : Fin 2) (r : Fin 128) : Fin 1024 := ⟨256 * t.val + 128 * h.val + r.val, by have ht : t.val < 4 := t.isLt; omega⟩

theorem xRows_eq (c t : Dev nD) (h : Fin 2) (r : Fin 128) (d : Fin 256) : xRows m c t h (ix2 r d) = xIn m c (ix2 (token t h r) d) := by
  unfold xRows
  rw [View.readAt_apply]
  refine congrArg (xIn m c) (funext fun a => Fin.ext ?_)
  match a with
  | ⟨0, _⟩ => show 256 * t.val + 128 * h.val + 1 * r.val = 256 * t.val + 128 * h.val + r.val; omega
  | ⟨1, _⟩ => show 0 + 1 * d.val = d.val; omega
theorem wRows_eq (c t : Dev nD) (h : Fin 2) (r : Fin 128) (e : Fin 16) : wRows m c t h (ix2 r e) = weights m c (ix2 (token t h r) e) := by
  unfold wRows
  rw [View.readAt_apply]
  refine congrArg (weights m c) (funext fun a => Fin.ext ?_)
  match a with
  | ⟨0, _⟩ => show 256 * t.val + 128 * h.val + 1 * r.val = 256 * t.val + 128 * h.val + r.val; omega
  | ⟨1, _⟩ => show 0 + 1 * e.val = e.val; omega
theorem idxCol0_eq (v : (cc0_stg2_0 : Ref sig .tc).ty.Contents (Elt Ideal)) (n : Fin 1024) :
    idxM.view.readAt (Elt Ideal) idxCol0.toLoadRect v (ix2 n 0) = v (ix2 n 0) := by
  rw [View.readAt_apply]
  refine congrArg v (funext fun a => Fin.ext ?_)
  match a with
  | ⟨0, _⟩ => show 0 + 1 * n.val = n.val; omega
  | ⟨1, _⟩ => rfl
theorem idxCol1_eq (v : (cc0_stg2_0 : Ref sig .tc).ty.Contents (Elt Ideal)) (n : Fin 1024) :
    idxM.view.readAt (Elt Ideal) idxCol1.toLoadRect v (ix2 n 0) = v (ix2 n 1) := by
  rw [View.readAt_apply]
  refine congrArg v (funext fun a => Fin.ext ?_)
  match a with
  | ⟨0, _⟩ => show 0 + 1 * n.val = n.val; omega
  | ⟨1, _⟩ => rfl

/-- The array a device returns. -/
theorem returned (c : Dev nD) : (dats m 0 c).arrAt (4 : Fin 5) cfg0.N = resultAt m c :=
  (dats m 0 c).arrAt_eq_of_after_last (4 : Fin 5) (0 : Fin 1)
    ⟨by decide, fun t _ => Subsingleton.elim (α := Fin 1) t 0, fun a => ⟨by revert a; decide, by revert a; decide⟩⟩ _ fun j => rfl

/-- A slot's contents widened back. -/
theorem total_eq (p a b d : FVec Ideal S128x512 .f32) (i : S128x512.Idx) :
    total (F := Ideal) p (shapeCast S1x128x512 (truncf .bf16 a bitsLt_bf16_f32) shapeCasts_S128x512_S1x128x512)
      (shapeCast S1x128x512 (truncf .bf16 b bitsLt_bf16_f32) shapeCasts_S128x512_S1x128x512)
      (shapeCast S1x128x512 (truncf .bf16 d bitsLt_bf16_f32) shapeCasts_S128x512_S1x128x512) i = p i + a i + b i + d i := by
  obtain ⟨r, k, rfl⟩ : ∃ r k, i = ix2 r k := ⟨i 0, i 1, eq_ix2 i⟩
  pointwise [total, widened]

end Cert.Moe

end
-- ==== Proof.Layer.lean ====
/-
# The kernel's result is the layer's

Each row of the result is the mixture of the token's two routed experts: the four devices' shares are the sixteen
experts' contributions, and those of the fourteen experts that aren't routed to are zero.
-/
module

public import proofs.«01_k».proof.Proof.Reads

@[expose] public section

set_option maxRecDepth 16384

noncomputable section

namespace Cert.Moe

open Cert.KernelIdeal Cert.KernelIdeal.Gen
open Idealize.ShloMosaic
open Idealize.ShloMosaic.TcCoe

section
variable (X : FVec Ideal ⟨2, ![1024, 256]⟩ .f32) (R : FVec Ideal ⟨2, ![256, 16]⟩ .f32) (G : FVec Ideal ⟨3, ![16, 256, 512]⟩ .f32) (ea eb : Fin 1024 → Fin 16)

/-- What expert `e` makes of token `n`, at output feature `k`. -/
def expertOut (n : Fin 1024) (k : Fin 512) (e : Fin 16) : EReal := ∑ d, X (ix2 n d) * G (ix3 e d k)

/-- The layer: a token's two routed experts, each with its share of the two gates. -/
def layer (n : Fin 1024) (k : Fin 512) : EReal :=
  Ideal.div (gate X R n (ea n)) (gate X R n (ea n) + gate X R n (eb n)) * expertOut X G n k (ea n)
    + Ideal.div (gate X R n (eb n)) (gate X R n (ea n) + gate X R n (eb n)) * expertOut X G n k (eb n)

/-- Every device holds the tokens, the router and the routed experts whole, and its own four of the sixteen experts; the
    tokens and the router are finite; and the routed experts' words are the numbers `ea` and `eb`. -/
structure Given (m : (ℓ : Loc nD τ sig) → Buf (Elt Ideal) ℓ) (I : IVec ⟨2, ![1024, 2]⟩ 32) : Prop where
  x : ∀ c : Dev nD, m ((c : Thread nD τ).loc main_arg0) = X
  r : ∀ c : Dev nD, m ((c : Thread nD τ).loc main_arg1) = R
  i : ∀ c : Dev nD, m ((c : Thread nD τ).loc main_arg2) = I
  g : ∀ (c : Dev nD) (j : Fin 4) (d : Fin 256) (k : Fin 512), m ((c : Thread nD τ).loc main_arg3) (ix3 j d k) = G (ix3 (expertOf c j) d k)
  finX : ∀ i, ∃ a : ℝ, X i = (a : EReal)
  finR : ∀ i, ∃ a : ℝ, R i = (a : EReal)
  fst : ∀ n, I (ix2 n 0) = BitVec.ofNat 32 (ea n).val
  snd : ∀ n, I (ix2 n 1) = BitVec.ofNat 32 (eb n).val

variable {X R G ea eb} {m : (ℓ : Loc nD τ sig) → Buf (Elt Ideal) ℓ} {I : IVec ⟨2, ![1024, 2]⟩ 32}

/-- The table of weights on every device. -/
theorem weights_table (H : Given X R G ea eb m I) (c : Dev nD) (n : Fin 1024) (e : Fin 16) :
    weights m c (ix2 n e) = weight (gate X R n) (ea n) (eb n) e := by
  unfold weights
  rw [pay2_eq _ _ _ n e (ea n) (eb n) ((idxCol0_eq _ n).trans ((congrFun ((idxIn_eq m c).trans (H.i c)) _).trans (H.fst n)))
    ((idxCol1_eq _ n).trans ((congrFun ((idxIn_eq m c).trans (H.i c)) _).trans (H.snd n))), xIn_eq, routerIn_eq, H.x, H.r]
  exact congrArg (fun g => weight g (ea n) (eb n) e) (funext fun k => pay1_eq X R n k)

/-- A device's share of a block of rows: its own four experts' contributions. -/
theorem share_eq (H : Given X R G ea eb m I) (c t : Dev nD) (h : Fin 2) (r : Fin 128) (k : Fin 512) :
    share m c t h (ix2 r k) = ∑ j : Fin 4, weight (gate X R (token t h r)) (ea (token t h r)) (eb (token t h r)) (expertOf c j) * expertOut X G (token t h r) k (expertOf c j) := by
  choose p hp hg using gate_pos X R H.finX H.finR (token t h r)
  unfold share
  rw [product_eq]
  refine Finset.sum_congr rfl fun j _ => ?_
  obtain ⟨w, hw, ew⟩ := weight_nonneg hp hg (ea (token t h r)) (eb (token t h r)) (expertOf c j)
  unfold expertOut
  rw [ew, ← scaled_sum w hw]
  refine Finset.sum_congr rfl fun d _ => ?_
  rw [xRows_eq, wRows_eq, weights_table H, ew, xIn_eq, expertIn_eq, H.x, H.g]

/-- The four devices, in the order a device adds their shares. -/
theorem around (f : Dev nD → EReal) (c : Dev nD) : f c + f (shift 2 c) + f (shift 1 c) + f (shift 3 c) = ∑ s : Fin 4, f s := by
  have h2 : ∀ c : Dev nD, shift 2 c = ![(2 : Fin 4), 3, 0, 1] c := by decide
  have h1 : ∀ c : Dev nD, shift 1 c = ![(1 : Fin 4), 2, 3, 0] c := by decide
  have h3 : ∀ c : Dev nD, shift 3 c = ![(3 : Fin 4), 0, 1, 2] c := by decide
  rw [h1, h2, h3, Fin.sum_univ_four]
  revert c
  show ∀ c : Fin 4, _
  rw [Fin.forall_fin_succ, Fin.forall_fin_succ, Fin.forall_fin_succ, Fin.forall_fin_one]
  exact ⟨show f (0 : Fin 4) + f (2 : Fin 4) + f (1 : Fin 4) + f (3 : Fin 4) = _ by abel, show f (1 : Fin 4) + f (3 : Fin 4) + f (2 : Fin 4) + f (0 : Fin 4) = _ by abel,
    show f (2 : Fin 4) + f (0 : Fin 4) + f (3 : Fin 4) + f (1 : Fin 4) = _ by abel, show f (3 : Fin 4) + f (1 : Fin 4) + f (0 : Fin 4) + f (2 : Fin 4) = _ by abel⟩

/-- A half of the rows a device returns. -/
theorem result_eq (H : Given X R G ea eb m I) (c : Dev nD) (h : Fin 2) (r : Fin 128) (k : Fin 512) :
    result m c h (ix2 r k) = layer X R G ea eb (token c h r) k := by
  choose p hp hg using gate_pos X R H.finX H.finR (token c h r)
  have hs : result m c h (ix2 r k) = share m c c h (ix2 r k) + share m (shift 2 c) c h (ix2 r k) + share m (shift 1 c) c h (ix2 r k) + share m (shift 3 c) c h (ix2 r k) :=
    total_eq _ _ _ _ _
  rw [hs, around (fun s => share m s c h (ix2 r k)) c, Finset.sum_congr rfl fun s _ => share_eq H s c h r k]
  unfold layer
  rw [← mixture hp hg, Fin.sum_univ_tiles 4 4 rfl]
  refine Finset.sum_congr rfl fun s _ => Finset.sum_congr rfl fun j _ => ?_
  have hs : s.val < 4 := s.isLt
  rw [show expertOf s j = ⟨s.val * 4 + j.val, by omega⟩ from Fin.ext (by show 4 * s.val + j.val = s.val * 4 + j.val; omega)]

set_option backward.proofsInPublic true in
/-- Row `r` of device `c`'s 256, among all the tokens. -/
def row (c : Dev nD) (r : Fin 256) : Fin 1024 := ⟨256 * c.val + r.val, by have hc : c.val < 4 := c.isLt; omega⟩

/-- The rows a device returns are the layer's. -/
theorem resultAt_eq (H : Given X R G ea eb m I) (c : Dev nD) (r : Fin 256) (k : Fin 512) :
    resultAt m c (ix2 r k) = layer X R G ea eb (row c r) k := by
  have hr := r.isLt
  unfold resultAt
  rw [eq_ix2 (outPos (ix2 r k)), show outPos (ix2 r k) 1 = k from rfl, show outPos (ix2 r k) 0 = (⟨r.val % 128, Nat.mod_lt _ (by decide)⟩ : Fin 128) from rfl, result_eq H]
  refine congrArg (layer X R G ea eb · k) (Fin.ext ?_)
  unfold outHalf
  by_cases hh : r.val < 128
  · rw [if_pos (show ((ix2 r k : S256x512.Idx) 0).val < 128 from hh)]
    show 256 * c.val + 128 * 0 + r.val % 128 = 256 * c.val + r.val; omega
  · rw [if_neg (show ¬ ((ix2 r k : S256x512.Idx) 0).val < 128 from hh)]
    show 256 * c.val + 128 * 1 + r.val % 128 = 256 * c.val + r.val; omega

end

end Cert.Moe

end
-- ==== Proof.Reference.lean ====
/-
# The reference's result is the layer's

The reference picks each token's two gates out of the softmax and its two experts out of the sixteen, and adds the two
products, each with its share of the gates.
-/
module

public import proofs.«01_k».proof.Proof.Gen.ReferenceIdeal.Run
public import proofs.«01_k».proof.Proof.Layer

@[expose] public section

set_option maxRecDepth 16384

noncomputable section

namespace Cert.Moe.Ref

open Cert.ReferenceIdeal Cert.ReferenceIdeal.Gen
open Idealize.ShloMosaic
open Idealize.ShloMosaic.TcCoe

/-! ## Indices -/

/-- A small number's word, read back. -/
theorem word_val (k : ℕ) (h : k < 2 ^ 31) : (BitVec.ofNat 32 k).toInt.toNat = k := by
  have hn : (BitVec.ofNat 32 k).toNat = k := by rw [BitVec.toNat_ofNat]; exact Nat.mod_eq_of_lt (by omega)
  rw [BitVec.toInt_eq_toNat_of_lt (by rw [hn]; omega), hn]; rfl

/-- A word in range is an expert's number. -/
theorem word_expert (b : BitVec 32) (h0 : IntOp.cmpi .sge b 0#32 = 1#1) (h1 : IntOp.cmpi .slt b 16#32 = 1#1) : ∃ e : Fin 16, b = BitVec.ofNat 32 e.val := by
  have a0 : (0 : ℤ) ≤ b.toInt := by
    have : (BitVec.sle 0#32 b) = true := by
      revert h0; show BitVec.ofBool _ = 1#1 → _; cases hb : BitVec.sle 0#32 b <;> simp [hb]
    simpa [BitVec.sle] using this
  have a1 : b.toInt < 16 := by
    have : (BitVec.slt b 16#32) = true := by
      revert h1; show BitVec.ofBool _ = 1#1 → _; cases hb : BitVec.slt b 16#32 <;> simp [hb]
    simpa [BitVec.slt] using this
  have hn : b.toNat < 16 := by
    have := b.isLt
    rw [BitVec.toInt_eq_toNat_cond] at a0 a1
    split_ifs at a0 a1 <;> omega
  exact ⟨⟨b.toNat, hn⟩, by simp⟩

/-- Neither the token's number nor an expert's is moved by the reference's treatment of negative indices. -/
theorem wrap_eq (k : ℕ) (h : k < 2 ^ 31) (s : BitVec 32) :
    (if IntOp.cmpi .slt (BitVec.ofNat 32 k) 0#32 = 1#1 then IntOp.addi (BitVec.ofNat 32 k) s else BitVec.ofNat 32 k) = BitVec.ofNat 32 k := by
  rw [if_neg]
  have hn : (BitVec.ofNat 32 k).toNat = k := by rw [BitVec.toNat_ofNat]; exact Nat.mod_eq_of_lt (by omega)
  have : BitVec.slt (BitVec.ofNat 32 k) 0#32 = false := by
    rw [BitVec.slt_eq_decide, BitVec.toInt_eq_toNat_of_lt (by rw [hn]; omega), hn]; simp
  show ¬ BitVec.ofBool (BitVec.slt (BitVec.ofNat 32 k) 0#32) = 1#1
  rw [this]; decide

/-! ## The gathers -/

abbrev pickGate := gather_S1024x16_S1024x2_S1024_n_01_n_n_01_1_11
abbrev pickExpert := gather_S16x256x512_S1024x1_S1024x256x512_12_0_n_n_0_1_1256512

/-- The gather of gates reads row `n`, column `e`, where its index pair names them. -/
theorem gather_gate (P : FVec Ideal S1024x16 .f32) (I : IVec S1024x2 32) (n : Fin 1024) (e : Fin 16)
    (h0 : I (ix2 n 0) = BitVec.ofNat 32 n.val) (h1 : I (ix2 n 1) = BitVec.ofNat 32 e.val) : Host.gather pickGate P I (ix1 n) = P (ix2 n e) := by
  have hn := n.isLt
  have he := e.isLt
  unfold Host.gather
  refine congrArg P (funext fun a => Fin.ext ?_)
  show pickGate.start (ix1 n) I a + pickGate.batchCoord (ix1 n) a + pickGate.offCoord (ix1 n) a = _
  rw [GatherDims.batchCoord_eq_zero _ _ _ List.not_mem_nil, GatherDims.offCoord_eq_zero _ _ _ (by revert a; decide)]
  match a with
  | ⟨0, _⟩ =>
    have ha : (0 : Fin 2) ∈ pickGate.startIndexMap := by decide
    have hi : pickGate.siIdx (ix1 n) ⟨pickGate.startIndexMap.idxOf (0 : Fin 2), List.idxOf_lt_length_iff.2 ha⟩ = ix2 n 0 := by
      funext b
      match b with
      | ⟨0, _⟩ => rfl
      | ⟨1, _⟩ => rfl
    unfold GatherDims.start
    erw [dif_pos ha, hi, h0]
    rw [word_val _ (by omega)]
    show min n.val (1024 - 1) + 0 + 0 = n.val
    omega
  | ⟨1, _⟩ =>
    have ha : (1 : Fin 2) ∈ pickGate.startIndexMap := by decide
    have hi : pickGate.siIdx (ix1 n) ⟨pickGate.startIndexMap.idxOf (1 : Fin 2), List.idxOf_lt_length_iff.2 ha⟩ = ix2 n 1 := by
      funext b
      match b with
      | ⟨0, _⟩ => rfl
      | ⟨1, _⟩ => rfl
    unfold GatherDims.start
    erw [dif_pos ha, hi, h1]
    rw [word_val _ (by omega)]
    show min e.val (16 - 1) + 0 + 0 = e.val
    omega

/-- The gather of experts reads the matrix its index names. -/
theorem gather_expert (G : FVec Ideal S16x256x512 .f32) (I : IVec S1024x1 32) (n : Fin 1024) (d : Fin 256) (k : Fin 512) (e : Fin 16)
    (h : I (ix2 n 0) = BitVec.ofNat 32 e.val) : Host.gather pickExpert G I (ix3 n d k) = G (ix3 e d k) := by
  have he := e.isLt
  unfold Host.gather
  refine congrArg G (funext fun a => Fin.ext ?_)
  show pickExpert.start (ix3 n d k) I a + pickExpert.batchCoord (ix3 n d k) a + pickExpert.offCoord (ix3 n d k) a = _
  rw [GatherDims.batchCoord_eq_zero _ _ _ List.not_mem_nil]
  match a with
  | ⟨0, _⟩ =>
    have ha : (0 : Fin 3) ∈ pickExpert.startIndexMap := by decide
    have hi : pickExpert.siIdx (ix3 n d k) ⟨pickExpert.startIndexMap.idxOf (0 : Fin 3), List.idxOf_lt_length_iff.2 ha⟩ = ix2 n 0 := by
      funext b
      match b with
      | ⟨0, _⟩ => rfl
      | ⟨1, _⟩ => rfl
    erw [GatherDims.offCoord_eq_zero _ _ _ (show (0 : Fin 3) ∉ pickExpert.sKept by decide)]
    unfold GatherDims.start
    erw [dif_pos ha, hi, h]
    rw [word_val _ (by omega)]
    show min e.val (16 - 1) + 0 + 0 = e.val
    omega
  | ⟨1, _⟩ =>
    unfold GatherDims.start
    erw [dif_neg (show (1 : Fin 3) ∉ pickExpert.startIndexMap by decide)]
    exact Nat.zero_add _
  | ⟨2, _⟩ =>
    unfold GatherDims.start
    erw [dif_neg (show (2 : Fin 3) ∉ pickExpert.startIndexMap by decide)]
    exact Nat.zero_add _

/-! ## The reference's pieces -/

section
variable (X : FVec Ideal S1024x256 .f32) (R : FVec Ideal S256x16 .f32) (I : IVec S1024x2 32) (G : FVec Ideal S16x256x512 .f32)

/-- A column of indices, a negative one counted from the end `s`. -/
def wrapped (s : BitVec 32) (v : IVec S1024 32) : IVec S1024x1 32 :=
  broadcastInDim S1024x1 ![0] bcast_S1024_S1024x1_0 (select (cmpi .slt v (broadcastInDim S1024 ![] bcast_S_S1024 (constantI S_ 32 0#32)))
    (addi v (broadcastInDim S1024 ![] bcast_S_S1024 (constantI S_ 32 s))) v)
/-- The tokens' first and second experts. -/
def fstCol : IVec S1024 32 := shapeCast S1024 (extractStridedSlice S1024x1 ![0, 0] I slices_S1024x2_S1024x1_0_0) shapeCasts_S1024x1_S1024
def sndCol : IVec S1024 32 := shapeCast S1024 (extractStridedSlice S1024x1 ![0, 1] I slices_S1024x2_S1024x1_0_1) shapeCasts_S1024x1_S1024
def scores : FVec Ideal S1024x16 .f32 := Host.dotGeneral dot_S1024x256_S256x16_S1024x16_1_0_0_1_n_n none X R
def bumps : FVec Ideal S1024x16 .f32 :=
  Host.exp (subf (scores X R) (broadcastInDim S1024x16 ![0, 1] bcast_S1024x1_S1024x16_0_1 (broadcastInDim S1024x1 ![0] bcast_S1024_S1024x1_0
    (Host.reduce FloatOps.maximumf (scores X R) (constant S_ .f32 0xFF800000#32) reducesTo_S1024x16_S1024_d1 h_S_))))
/-- The softmax. -/
def probs : FVec Ideal S1024x16 .f32 :=
  Host.divf (bumps X R) (broadcastInDim S1024x16 ![0, 1] bcast_S1024x1_S1024x16_0_1 (broadcastInDim S1024x1 ![0] bcast_S1024_S1024x1_0
    (Host.reduceAdd (bumps X R) (constant S_ .f32 0x00000000#32) reducesTo_S1024x16_S1024_d1 h_S_)))
/-- The gates picked by a column of experts, and the products with those experts. -/
def picked (P : FVec Ideal S1024x16 .f32) (v : IVec S1024 32) : FVec Ideal S1024x1 .f32 :=
  broadcastInDim S1024x1 ![0] bcast_S1024_S1024x1_0 (Host.gather pickGate P
    (concatenate S1024x2 1 [⟨S1024x1, wrapped 1024#32 (iotaInDim S1024 32 0)⟩, ⟨S1024x1, wrapped 16#32 v⟩] concatenates_S1024x1_S1024x1_S1024x2_d1))
def made (v : IVec S1024 32) : FVec Ideal S1024x512 .f32 :=
  Host.dotGeneral dot_S1024x256_S1024x256x512_S1024x512_1_1_n_2_0_0 none X (Host.gather pickExpert G (wrapped 16#32 v))
/-- The two gates mixed with the two products. -/
def mixed (g0 g1 : FVec Ideal S1024x1 .f32) (y0 y1 : FVec Ideal S1024x512 .f32) : FVec Ideal S1024x512 .f32 :=
  addf (mulf (broadcastInDim S1024x512 ![0, 1] bcast_S1024x1_S1024x512_0_1 (Host.divf g0 (addf g0 g1))) y0)
    (mulf (broadcastInDim S1024x512 ![0, 1] bcast_S1024x1_S1024x512_0_1 (Host.divf g1 (addf g0 g1))) y1)
/-- The reference's value. -/
def value : FVec Ideal S1024x512 .f32 :=
  mixed (picked (probs X R) (fstCol I)) (picked (probs X R) (sndCol I)) (made X G (fstCol I)) (made X G (sndCol I))

theorem res_eq (m : (ℓ : Loc nD τ sig) → Buf (Elt Ideal) ℓ) (c : Dev nD) :
    Value.res_main_v68 m c = value (m ((c.tc : Thread nD τ).loc main_arg0)) (m ((c.tc : Thread nD τ).loc main_arg1)) (m ((c.tc : Thread nD τ).loc main_arg2)) (m ((c.tc : Thread nD τ).loc main_arg3)) := by
  unfold Value.res_main_v68; rfl

variable {X R I G}

theorem wrapped_eq (s : BitVec 32) (v : IVec S1024 32) (n : Fin 1024) (k : ℕ) (hk : k < 2 ^ 31) (h : v (ix1 n) = BitVec.ofNat 32 k) :
    wrapped s v (ix2 n 0) = BitVec.ofNat 32 k := by
  have e : wrapped s v (ix2 n 0) = if IntOp.cmpi .slt (v (ix1 n)) 0#32 = 1#1 then IntOp.addi (v (ix1 n)) s else v (ix1 n) := by
    pointwise [wrapped]
    rfl
  rw [e, h, wrap_eq k hk]
theorem fstCol_eq (n : Fin 1024) : fstCol I (ix1 n) = I (ix2 n 0) := by pointwise [fstCol]
theorem sndCol_eq (n : Fin 1024) : sndCol I (ix1 n) = I (ix2 n 1) := by pointwise [sndCol]

theorem scores_eq (n : Fin 1024) (e : Fin 16) : scores X R (ix2 n e) = score X R n e := by
  pointwise [scores]
  rfl
theorem bumps_eq (n : Fin 1024) (e : Fin 16) : bumps X R (ix2 n e) = bump X R n e := by
  have h : bumps X R (ix2 n e) = Ideal.exp (scores X R (ix2 n e) - Finset.fold max (Ideal.ofBits .f32 0xFF800000#32) (fun k => scores X R (ix2 n k)) Finset.univ) := by
    pointwise [bumps]
  rw [h, scores_eq, funext fun k => scores_eq n k]; rfl
theorem probs_eq (n : Fin 1024) (e : Fin 16) : probs X R (ix2 n e) = gate X R n e := by
  have h : probs X R (ix2 n e) = Ideal.div (bumps X R (ix2 n e)) (∑ k : Fin 16, bumps X R (ix2 n k)) := by
    pointwise [probs]
  rw [h, bumps_eq, Finset.sum_congr rfl fun k _ => bumps_eq n k]; rfl

theorem picked_eq (P : FVec Ideal S1024x16 .f32) (v : IVec S1024 32) (n : Fin 1024) (e : Fin 16) (h : v (ix1 n) = BitVec.ofNat 32 e.val) :
    picked P v (ix2 n 0) = P (ix2 n e) := by
  have he := e.isLt
  have hn := n.isLt
  have hv := wrapped_eq 16#32 v n e.val (by omega) h
  have ht := wrapped_eq 1024#32 (iotaInDim S1024 32 0) n n.val (by omega) rfl
  unfold picked
  generalize wrapped 16#32 v = a at *
  generalize wrapped 1024#32 (iotaInDim S1024 32 0) = b at *
  have e1 : concatenate S1024x2 1 [⟨S1024x1, b⟩, ⟨S1024x1, a⟩] concatenates_S1024x1_S1024x1_S1024x2_d1 (ix2 n 0) = b (ix2 n 0) := by pointwise []
  have e2 : concatenate S1024x2 1 [⟨S1024x1, b⟩, ⟨S1024x1, a⟩] concatenates_S1024x1_S1024x1_S1024x2_d1 (ix2 n 1) = a (ix2 n 0) := by pointwise []
  have hg := gather_gate P _ n e (e1.trans ht) (e2.trans hv)
  generalize Host.gather pickGate P _ = q at *
  rw [← hg]
  pointwise []

theorem made_eq (v : IVec S1024 32) (n : Fin 1024) (k : Fin 512) (e : Fin 16) (h : v (ix1 n) = BitVec.ofNat 32 e.val) :
    made X G v (ix2 n k) = expertOut X G n k e := by
  have he := e.isLt
  have hg := fun d => gather_expert G (wrapped 16#32 v) n d k e (wrapped_eq 16#32 v n e.val (by omega) h)
  unfold made
  generalize Host.gather pickExpert G (wrapped 16#32 v) = q at *
  have hd : Host.dotGeneral (F := Ideal) dot_S1024x256_S1024x256x512_S1024x512_1_1_n_2_0_0 none X q (ix2 n k) = ∑ d : Fin 256, X (ix2 n d) * q (ix3 n d k) := by
    pointwise []
  rw [hd]
  exact Finset.sum_congr rfl fun d _ => by rw [hg d]

theorem mixed_eq (g0 g1 : FVec Ideal S1024x1 .f32) (y0 y1 : FVec Ideal S1024x512 .f32) (n : Fin 1024) (k : Fin 512) :
    mixed g0 g1 y0 y1 (ix2 n k) = Ideal.div (g0 (ix2 n 0)) (g0 (ix2 n 0) + g1 (ix2 n 0)) * y0 (ix2 n k) + Ideal.div (g1 (ix2 n 0)) (g0 (ix2 n 0) + g1 (ix2 n 0)) * y1 (ix2 n k) := by
  pointwise [mixed]

/-- The reference's value is the layer's. -/
theorem value_eq (ea eb : Fin 1024 → Fin 16) (ha : ∀ n, I (ix2 n 0) = BitVec.ofNat 32 (ea n).val) (hb : ∀ n, I (ix2 n 1) = BitVec.ofNat 32 (eb n).val) (n : Fin 1024) (k : Fin 512) :
    value X R I G (ix2 n k) = layer X R G ea eb n k := by
  have h0 : fstCol I (ix1 n) = BitVec.ofNat 32 (ea n).val := (fstCol_eq n).trans (ha n)
  have h1 : sndCol I (ix1 n) = BitVec.ofNat 32 (eb n).val := (sndCol_eq n).trans (hb n)
  unfold value
  rw [mixed_eq, picked_eq _ _ n _ h0, picked_eq _ _ n _ h1, made_eq _ n k _ h0, made_eq _ n k _ h1, probs_eq, probs_eq]
  rfl

end

end Cert.Moe.Ref

end
-- ==== Proof.Algebraic.lean ====
/-
# The kernel computes the reference

From memories where the devices hold their parts of the reference's arguments, both run, and each device's result is its
block of the reference's.
-/
module

public import proofs.«01_k».proof.Defs
public import proofs.«01_k».proof.Proof.Gen.Pre_routed_KernelIdeal
public import proofs.«01_k».proof.Proof.Reference

@[expose] public section

set_option maxRecDepth 16384

noncomputable section

namespace Cert.Moe

open Idealize.ShloMosaic Idealize.ShloMosaic.TcCoe Idealize.SL.Sem

attribute [local instance] Cert.KernelIdeal.Gen.facts Cert.ReferenceIdeal.Gen.facts Cert.Pre_routed_KernelIdeal.Gen.facts

/-- A number whose absolute value compares below infinity is real. -/
theorem real_of_abs (a : EReal) (h : (FloatOps.cmpf .olt (FloatOps.absf a : Ideal .f32) (Ideal.ofBits .f32 0x7F800000#32) : BitVec 1) = 1#1) : ∃ r : ℝ, a = r := by
  have ht : Ideal.ofBits .f32 0x7F800000#32 = ⊤ := by simp [Ideal.ofBits, Ideal.ieee]
  rw [ht] at h
  induction a using EReal.rec with
  | bot => exact absurd h (by show ¬ Ideal.cmp .olt (max (⊥ : EReal) (-⊥)) ⊤ = 1#1; simp [Ideal.cmp])
  | coe r => exact ⟨r, rfl⟩
  | top => exact absurd h (by show ¬ Ideal.cmp .olt (max (⊤ : EReal) (-⊤)) ⊤ = 1#1; simp [Ideal.cmp])

/-- What the precondition says of the arrays a device holds: real tokens, a real router, and routed experts that are
    expert numbers. -/
theorem routed_says {m : (ℓ : Loc Cert.KernelIdeal.nD Cert.KernelIdeal.τ Cert.KernelIdeal.sig) → Buf (Elt Ideal) ℓ} (h : Cert.Pre_KernelIdeal_routed_KernelIdeal m) (c : Dev Cert.KernelIdeal.nD) :
    (∀ j, ∃ a : ℝ, m ((c : Thread Cert.KernelIdeal.nD Cert.KernelIdeal.τ).loc Cert.KernelIdeal.main_arg0) j = (a : EReal))
    ∧ (∀ j, ∃ a : ℝ, m ((c : Thread Cert.KernelIdeal.nD Cert.KernelIdeal.τ).loc Cert.KernelIdeal.main_arg1) j = (a : EReal))
    ∧ ∀ j, ∃ e : Fin 16, m ((c : Thread Cert.KernelIdeal.nD Cert.KernelIdeal.τ).loc Cert.KernelIdeal.main_arg2) j = BitVec.ofNat 32 e.val :=
  ⟨fun j => real_of_abs _ (congrFun (h c).1 j), fun j => real_of_abs _ (congrFun (h c).2.1 j),
    fun j => Ref.word_expert _ (congrFun (h c).2.2.1 j) (congrFun (h c).2.2.2 j)⟩

/-- The kernel computes the reference: on every device, its block of the rows. -/
theorem algebraic : Cert.algebraic_KernelIdeal_ReferenceIdeal_pre_routed_KernelIdeal := by
  intro m g m' g' hpre harg
  have hx := (routed_says hpre 0).1
  have hr := (routed_says hpre 0).2.1
  have hi := (routed_says hpre 0).2.2
  rw [show m ((0 : Dev Cert.KernelIdeal.nD).tc.loc Cert.KernelIdeal.main_arg0) = _ from (harg 0).1] at hx
  rw [show m ((0 : Dev Cert.KernelIdeal.nD).tc.loc Cert.KernelIdeal.main_arg1) = _ from (harg 0).2.1] at hr
  rw [show m ((0 : Dev Cert.KernelIdeal.nD).tc.loc Cert.KernelIdeal.main_arg2) = _ from (harg 0).2.2.1] at hi
  choose ea ha using fun n : Fin 1024 => hi (ix2 n 0)
  choose eb hb using fun n : Fin 1024 => hi (ix2 n 1)
  have H := Given.mk (m := m) (fun c => (harg c).1) (fun c => (harg c).2.1) (fun c => (harg c).2.2.1) (fun c j d k => by
    have e := congrFun (harg c).2.2.2 (ix3 j d k)
    refine e.trans (congrArg (m' _) (funext fun a => Fin.ext ?_))
    match a with
    | ⟨0, _⟩ => show c.val * 4 + j.val = 4 * c.val + j.val; omega
    | ⟨1, _⟩ => rfl
    | ⟨2, _⟩ => rfl) hx hr ha hb
  refine ⟨Cert.ReferenceIdeal.Value.res_main_v68 m' 0, (θ_run _ _ _).mono (fun r h c => ⟨?_, (h.1 c).2⟩) (run_arrays m g), (θ_run _ _ _).mono (fun r h => h 0) (Cert.ReferenceIdeal.Value.run m' g')⟩
  refine ((h.1 c).1.trans (returned m c)).trans (funext fun i => ?_)
  obtain ⟨p, k, rfl⟩ : ∃ (p : Fin 256) (k : Fin 512), i = ix2 p k := ⟨i 0, i 1, eq_ix2 i⟩
  refine (resultAt_eq H c p k).trans ((Ref.value_eq ea eb ha hb (row c p) k).symm.trans ?_)
  rw [Ref.res_eq]
  refine congrArg (Ref.value _ _ _ _) (funext fun a => Fin.ext ?_)
  match a with
  | ⟨0, _⟩ => show 256 * c.val + p.val = c.val * 256 + p.val; omega
  | ⟨1, _⟩ => rfl

end Cert.Moe

end
-- ==== Proof.lean ====
/-
# The proof of the claims

The two programs' frames, the reference's frame, that the kernel over extended reals is the kernel's own text, and that
the kernel computes the reference. The frames are proved of every initial memory, so of those that meet the precondition.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim, with the facts the programs and the precondition state. -/
theorem claim : Cert.Claim :=
  ⟨Cert.Kernel.Gen.facts, Cert.KernelIdeal.Gen.facts, Cert.ReferenceIdeal.Gen.facts, Cert.Pre_routed_KernelIdeal.Gen.facts, Cert.Pre_routed_ReferenceIdeal.Gen.facts,
    Cert.Moe.frame_kernel, Cert.Moe.frame_ideal, fun m ρ _ => Cert.Moe.frame_ideal m ρ trivial,
    Cert.Moe.frame_reference, fun m ρ _ => Cert.Moe.frame_reference m ρ trivial, trivial, Cert.Moe.algebraic⟩

end Cert.Proof

end
